-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gain [hPre_finite_gain : Cert.Pre_finite_gain.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gain.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gain [hPre_finite_gain : Cert.Pre_finite_gain.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gain.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_gain [hKernel5Ideal : Cert.Kernel5Ideal.Facts] [hPre_finite_gain : Cert.Pre_finite_gain.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gain m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_gain [hReference5Ideal : Cert.Reference5Ideal.Facts] [hPre_finite_gain : Cert.Pre_finite_gain.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gain m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_gain [hKernel5Ideal : Cert.Kernel5Ideal.Facts] [hReference5Ideal : Cert.Reference5Ideal.Facts] [hPre_finite_gain : Cert.Pre_finite_gain.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gain m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v144) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def preserves_Kernel7_Kernel7Ideal : Prop :=
  True

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts) (hKernel8 : Cert.Kernel8.Facts) (hKernel8Ideal : Cert.Kernel8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_gain : Cert.Pre_finite_gain.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gain (hKernel5Ideal := hKernel5Ideal) (hPre_finite_gain := hPre_finite_gain)
    ∧ quiescent_Reference5Ideal (hReference5Ideal := hReference5Ideal)
    ∧ quiescent_Reference5Ideal_pre_finite_gain (hReference5Ideal := hReference5Ideal) (hPre_finite_gain := hPre_finite_gain)
    ∧ quiescent_Kernel6 (hKernel6 := hKernel6)
    ∧ quiescent_Kernel6Ideal (hKernel6Ideal := hKernel6Ideal)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gain (hKernel5Ideal := hKernel5Ideal) (hReference5Ideal := hReference5Ideal) (hPre_finite_gain := hPre_finite_gain)
    ∧ preserves_Kernel6_Kernel6Ideal
    ∧ preserves_Kernel7_Kernel7Ideal
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_gain.lean ====
abbrev S4x4096x2048 : Shape := ⟨3, ![4, 4096, 2048]⟩
abbrev S1x2048 : Shape := ⟨2, ![1, 2048]⟩
abbrev S2x4x512x512 : Shape := ⟨4, ![2, 4, 512, 512]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : FVec F S4x4096x2048 .f32) (main_arg1 : FVec F S1x2048 .f32) (main_arg2 : FVec F S2x4x512x512 .bf16) (main_arg3 : FVec F S1x2048 .f32) : IVec S1x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  main_v2
-- ==== Kernel.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2x2048x6400 : Shape := ⟨3, ![2, 2048, 6400]⟩
abbrev S16384x6400 : Shape := ⟨2, ![16384, 6400]⟩
abbrev S1024x2048 : Shape := ⟨2, ![1024, 2048]⟩
abbrev S1x2048x1280 : Shape := ⟨3, ![1, 2048, 1280]⟩
abbrev S1024x1280 : Shape := ⟨2, ![1024, 1280]⟩
abbrev S1024 : Shape := ⟨1, ![1024]⟩
abbrev S1024x1 : Shape := ⟨2, ![1024, 1]⟩
abbrev S2048x1280 : Shape := ⟨2, ![2048, 1280]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x6400, .bf16⟩
  | .hbm, ⟨3, _⟩ => ⟨S16384x6400, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S1x2048 : Shape := ⟨2, ![1, 2048]⟩
abbrev S2x2048x6400 : Shape := ⟨3, ![2, 2048, 6400]⟩
abbrev S_ : Shape := ⟨0, ![]⟩
abbrev S16384 : Shape := ⟨1, ![16384]⟩
abbrev S16384x1 : Shape := ⟨2, ![16384, 1]⟩
abbrev S1x2048x6400 : Shape := ⟨3, ![1, 2048, 6400]⟩
abbrev S2048x6400 : Shape := ⟨2, ![2048, 6400]⟩
abbrev S16384x6400 : Shape := ⟨2, ![16384, 6400]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x6400, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S1x2048x6400, .bf16⟩
  | .hbm, ⟨19, _⟩ => ⟨S2048x6400, .bf16⟩
  | .hbm, ⟨20, _⟩ => ⟨S2048x6400, .f32⟩
  | .hbm, ⟨21, _⟩ => ⟨S16384x6400, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S2x2048x2048 : Shape := ⟨3, ![2, 2048, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2x2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x2048 : Shape := ⟨2, ![16384, 2048]⟩
abbrev S16384x1024 : Shape := ⟨2, ![16384, 1024]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2x2048x2048, .bf16⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S16384x2048, .f32⟩
  | .hbm, ⟨11, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x2048 : Shape := ⟨2, ![1, 2048]⟩
abbrev S2x4x512x512 : Shape := ⟨4, ![2, 4, 512, 512]⟩
abbrev S1x512x2048 : Shape := ⟨3, ![1, 512, 2048]⟩
abbrev S1x16x2048 : Shape := ⟨3, ![1, 16, 2048]⟩
abbrev S1x4x512x512 : Shape := ⟨4, ![1, 4, 512, 512]⟩
abbrev S512x2048 : Shape := ⟨2, ![512, 2048]⟩
abbrev S512 : Shape := ⟨1, ![512]⟩
abbrev S512x1 : Shape := ⟨2, ![512, 1]⟩
abbrev S16x2048 : Shape := ⟨2, ![16, 2048]⟩
abbrev S16 : Shape := ⟨1, ![16]⟩
abbrev S16x1 : Shape := ⟨2, ![16, 1]⟩
abbrev S512x512 : Shape := ⟨2, ![512, 512]⟩
abbrev S16x512 : Shape := ⟨2, ![16, 512]⟩
abbrev S528x512 : Shape := ⟨2, ![528, 512]⟩
abbrev S1x1x512x512 : Shape := ⟨4, ![1, 1, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S2x4x512x512, .bf16⟩
  | .hbm, ⟨3, _⟩ => ⟨S1x2048, .f32⟩
  | .hbm, ⟨4, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x2048, .f32⟩
  | .local _ .vmem, ⟨5, _⟩ => ⟨S1x4x512x512, .bf16⟩
  | .local _ .vmem, ⟨6, _⟩ => ⟨S1x2048, .f32⟩
  | .local _ .vmem, ⟨7, _⟩ => ⟨S1x512x2048, .f32⟩
  | .local _ .vmem, ⟨8, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x4096x2048 : Shape := ⟨3, ![4, 4096, 2048]⟩
abbrev S1x2048 : Shape := ⟨2, ![1, 2048]⟩
abbrev S2x4x512x512 : Shape := ⟨4, ![2, 4, 512, 512]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x4x512x512 : Shape := ⟨4, ![1, 4, 512, 512]⟩
abbrev S4x512x512 : Shape := ⟨3, ![4, 512, 512]⟩
abbrev S4x1x2048 : Shape := ⟨3, ![4, 1, 2048]⟩
abbrev S4x4097x2048 : Shape := ⟨3, ![4, 4097, 2048]⟩
abbrev S4096 : Shape := ⟨1, ![4096]⟩
abbrev S4x4097x512 : Shape := ⟨3, ![4, 4097, 512]⟩
abbrev S4096x1 : Shape := ⟨2, ![4096, 1]⟩
abbrev S4x4096x512 : Shape := ⟨3, ![4, 4096, 512]⟩
abbrev S1x4096x1 : Shape := ⟨3, ![1, 4096, 1]⟩
abbrev S1x512x512 : Shape := ⟨3, ![1, 512, 512]⟩
abbrev S512x512 : Shape := ⟨2, ![512, 512]⟩

abbrev nBuf : Space → Nat
  | .hbm => 183
  | .vmem => 0
  | .smem => 0
  | _ => 0

abbrev hbmTy0_0 (i : Nat) : BufTy := match i % 128 with
  | 0 => ⟨S4x4096x2048, .f32⟩
  | 1 => ⟨S1x2048, .f32⟩
  | 2 => ⟨S2x4x512x512, .bf16⟩
  | 3 => ⟨S1x2048, .f32⟩
  | 4 => ⟨S4x4096x2048, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S_, .f32⟩
  | 12 => ⟨S4x4096x1, .f32⟩
  | 13 => ⟨S4x4096x1, .f32⟩
  | 14 => ⟨S4x4096x1, .f32⟩
  | 15 => ⟨S4x4096x2048, .f32⟩
  | 16 => ⟨S4x4096x2048, .f32⟩
  | 17 => ⟨S1x1x2048, .f32⟩
  | 18 => ⟨S4x4096x2048, .f32⟩
  | 19 => ⟨S4x4096x2048, .f32⟩
  | 20 => ⟨S1x4x512x512, .bf16⟩
  | 21 => ⟨S4x512x512, .bf16⟩
  | 22 => ⟨S4x512x512, .f32⟩
  | 23 => ⟨S_, .f32⟩
  | 24 => ⟨S4x1x2048, .f32⟩
  | 25 => ⟨S_, .f32⟩
  | 26 => ⟨S_, .f32⟩
  | 27 => ⟨S4x4096x2048, .f32⟩
  | 28 => ⟨S4x4097x2048, .f32⟩
  | 29 => ⟨S4096, .i32⟩
  | 30 => ⟨S4x4097x512, .f32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S4096x1, .f32⟩
  | 48 => ⟨S4x4096x512, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4x4096x512, .f32⟩
  | 58 => ⟨S4x4096x512, .f32⟩
  | 59 => ⟨S1x4096x1, .f32⟩
  | 60 => ⟨S4x4096x512, .f32⟩
  | 61 => ⟨S4x4096x512, .f32⟩
  | 62 => ⟨S4x4096x512, .f32⟩
  | 63 => ⟨S4x4096x512, .f32⟩
  | 64 => ⟨S1x512x512, .f32⟩
  | 65 => ⟨S512x512, .f32⟩
  | 66 => ⟨S4x4096x512, .f32⟩
  | 67 => ⟨S4x4097x512, .f32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .f32⟩
  | 84 => ⟨S4096x1, .f32⟩
  | 85 => ⟨S4x4096x512, .f32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S4x4096x512, .f32⟩
  | 95 => ⟨S4x4096x512, .f32⟩
  | 96 => ⟨S1x4096x1, .f32⟩
  | 97 => ⟨S4x4096x512, .f32⟩
  | 98 => ⟨S4x4096x512, .f32⟩
  | 99 => ⟨S4x4096x512, .f32⟩
  | 100 => ⟨S4x4096x512, .f32⟩
  | 101 => ⟨S1x512x512, .f32⟩
  | 102 => ⟨S512x512, .f32⟩
  | 103 => ⟨S4x4096x512, .f32⟩
  | 104 => ⟨S4x4097x512, .f32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .f32⟩
  | 121 => ⟨S4096x1, .f32⟩
  | 122 => ⟨S4x4096x512, .f32⟩
  | 123 => ⟨S_, .i32⟩
  | 124 => ⟨S4096, .i32⟩
  | 125 => ⟨S4096, .i1⟩
  | 126 => ⟨S_, .i32⟩
  | 127 => ⟨S4096, .i32⟩
  | _ => ⟨S4x4096x2048, .f32⟩

abbrev hbmTy0_1 (i : Nat) : BufTy := match i % 128 with
  | 0 => ⟨S4096, .i32⟩
  | 1 => ⟨S4096, .i32⟩
  | 2 => ⟨S4096x1, .i32⟩
  | 3 => ⟨S4x4096x512, .f32⟩
  | 4 => ⟨S4x4096x512, .f32⟩
  | 5 => ⟨S1x4096x1, .f32⟩
  | 6 => ⟨S4x4096x512, .f32⟩
  | 7 => ⟨S4x4096x512, .f32⟩
  | 8 => ⟨S4x4096x512, .f32⟩
  | 9 => ⟨S4x4096x512, .f32⟩
  | 10 => ⟨S1x512x512, .f32⟩
  | 11 => ⟨S512x512, .f32⟩
  | 12 => ⟨S4x4096x512, .f32⟩
  | 13 => ⟨S4x4097x512, .f32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096, .f32⟩
  | 30 => ⟨S4096x1, .f32⟩
  | 31 => ⟨S4x4096x512, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4x4096x512, .f32⟩
  | 41 => ⟨S4x4096x512, .f32⟩
  | 42 => ⟨S1x4096x1, .f32⟩
  | 43 => ⟨S4x4096x512, .f32⟩
  | 44 => ⟨S4x4096x512, .f32⟩
  | 45 => ⟨S4x4096x512, .f32⟩
  | 46 => ⟨S4x4096x512, .f32⟩
  | 47 => ⟨S1x512x512, .f32⟩
  | 48 => ⟨S512x512, .f32⟩
  | 49 => ⟨S4x4096x512, .f32⟩
  | 50 => ⟨S4x4096x2048, .f32⟩
  | 51 => ⟨S1x1x2048, .f32⟩
  | 52 => ⟨S4x4096x2048, .f32⟩
  | 53 => ⟨S4x4096x2048, .f32⟩
  | 54 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_16 : Ref sig .tc := ⟨.hbm, 105, rfl⟩
abbrev main_v81 : Ref sig .tc := ⟨.hbm, 106, rfl⟩
abbrev main_v82 : Ref sig .tc := ⟨.hbm, 107, rfl⟩
abbrev main_c_17 : Ref sig .tc := ⟨.hbm, 108, rfl⟩
abbrev main_v83 : Ref sig .tc := ⟨.hbm, 109, rfl⟩
abbrev main_v84 : Ref sig .tc := ⟨.hbm, 110, rfl⟩
abbrev main_c_18 : Ref sig .tc := ⟨.hbm, 111, rfl⟩
abbrev main_v85 : Ref sig .tc := ⟨.hbm, 112, rfl⟩
abbrev main_v86 : Ref sig .tc := ⟨.hbm, 113, rfl⟩
abbrev main_c_19 : Ref sig .tc := ⟨.hbm, 114, rfl⟩
abbrev main_v87 : Ref sig .tc := ⟨.hbm, 115, rfl⟩
abbrev main_v88 : Ref sig .tc := ⟨.hbm, 116, rfl⟩
abbrev main_c_20 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_21 : Ref sig .tc := ⟨.hbm, 123, rfl⟩
abbrev main_v94 : Ref sig .tc := ⟨.hbm, 124, rfl⟩
abbrev main_v95 : Ref sig .tc := ⟨.hbm, 125, rfl⟩
abbrev main_c_22 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_23 : Ref sig .tc := ⟨.hbm, 142, rfl⟩
abbrev main_v111 : Ref sig .tc := ⟨.hbm, 143, rfl⟩
abbrev main_v112 : Ref sig .tc := ⟨.hbm, 144, rfl⟩
abbrev main_c_24 : Ref sig .tc := ⟨.hbm, 145, rfl⟩
abbrev main_v113 : Ref sig .tc := ⟨.hbm, 146, rfl⟩
abbrev main_v114 : Ref sig .tc := ⟨.hbm, 147, rfl⟩
abbrev main_c_25 : Ref sig .tc := ⟨.hbm, 148, rfl⟩
abbrev main_v115 : Ref sig .tc := ⟨.hbm, 149, rfl⟩
abbrev main_v116 : Ref sig .tc := ⟨.hbm, 150, rfl⟩
abbrev main_c_26 : Ref sig .tc := ⟨.hbm, 151, rfl⟩
abbrev main_v117 : Ref sig .tc := ⟨.hbm, 152, rfl⟩
abbrev main_v118 : Ref sig .tc := ⟨.hbm, 153, rfl⟩
abbrev main_c_27 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_c_28 : Ref sig .tc := ⟨.hbm, 160, rfl⟩
abbrev main_v124 : Ref sig .tc := ⟨.hbm, 161, rfl⟩
abbrev main_v125 : Ref sig .tc := ⟨.hbm, 162, rfl⟩
abbrev main_c_29 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩

abbrev nD : Nat := 1
abbrev τ : Topo := Topo.v7x

variable {F : FTy → Type} [FloatOps F]
-- ==== Kernel6.lean ====
abbrev S4x4096x6400 : Shape := ⟨3, ![4, 4096, 6400]⟩
abbrev S4x2048x5632 : Shape := ⟨3, ![4, 2048, 5632]⟩
abbrev S4x4096x1024 : Shape := ⟨3, ![4, 4096, 1024]⟩
abbrev S2048x5632 : Shape := ⟨2, ![2048, 5632]⟩
abbrev S1x256x512 : Shape := ⟨3, ![1, 256, 512]⟩
abbrev S1x4096x512 : Shape := ⟨3, ![1, 4096, 512]⟩
abbrev S1x16x5632 : Shape := ⟨3, ![1, 16, 5632]⟩
abbrev S16x5632 : Shape := ⟨2, ![16, 5632]⟩
abbrev S4x16x256x128 : Shape := ⟨4, ![4, 16, 256, 128]⟩
abbrev S4x16x128x256 : Shape := ⟨4, ![4, 16, 128, 256]⟩
abbrev S4x16x128 : Shape := ⟨3, ![4, 16, 128]⟩
abbrev S4x16x256 : Shape := ⟨3, ![4, 16, 256]⟩
abbrev S4x256x256 : Shape := ⟨3, ![4, 256, 256]⟩
abbrev S4x128x256 : Shape := ⟨3, ![4, 128, 256]⟩
abbrev S1x256x128 : Shape := ⟨3, ![1, 256, 128]⟩
abbrev S256x128 : Shape := ⟨2, ![256, 128]⟩
abbrev S1x1x256x128 : Shape := ⟨4, ![1, 1, 256, 128]⟩
abbrev S128x256 : Shape := ⟨2, ![128, 256]⟩
abbrev S1x1x128x256 : Shape := ⟨4, ![1, 1, 128, 256]⟩
abbrev S128 : Shape := ⟨1, ![128]⟩
abbrev S1x128 : Shape := ⟨2, ![1, 128]⟩
abbrev S1x1x128 : Shape := ⟨3, ![1, 1, 128]⟩
abbrev S1x16x128 : Shape := ⟨3, ![1, 16, 128]⟩
abbrev S16x128 : Shape := ⟨2, ![16, 128]⟩
abbrev S32x128 : Shape := ⟨2, ![32, 128]⟩
abbrev S32x256 : Shape := ⟨2, ![32, 256]⟩
abbrev S16x256 : Shape := ⟨2, ![16, 256]⟩
abbrev S1x256 : Shape := ⟨2, ![1, 256]⟩
abbrev S1x16x256 : Shape := ⟨3, ![1, 16, 256]⟩
abbrev S256x256 : Shape := ⟨2, ![256, 256]⟩
abbrev S256 : Shape := ⟨1, ![256]⟩
abbrev S1x128x256 : Shape := ⟨3, ![1, 128, 256]⟩
abbrev S1x256x256 : Shape := ⟨3, ![1, 256, 256]⟩
abbrev S1x1x256 : Shape := ⟨3, ![1, 1, 256]⟩

abbrev nBuf : Space → Nat
  | .hbm => 12
  | .vmem => 39
  | .smem => 0
  | _ => 0

abbrev bufTy : (tb : Table) → Fin (tcTables nBuf tb) → BufTy
  | .hbm, ⟨0, _⟩ => ⟨S4x4096x6400, .f32⟩
  | .hbm, ⟨1, _⟩ => ⟨S4x2048x5632, .f32⟩
  | .hbm, ⟨2, _⟩ => ⟨S4x2048x5632, .f32⟩
  | .hbm, ⟨3, _⟩ => ⟨S4x2048x5632, .f32⟩
  | .hbm, ⟨4, _⟩ => ⟨S4x2048x5632, .f32⟩
  | .hbm, ⟨5, _⟩ => ⟨S4x4096x1024, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .local _ .vmem, ⟨0, _⟩ => ⟨S1x256x512, .f32⟩
  | .local _ .vmem, ⟨1, _⟩ => ⟨S1x256x512, .f32⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S1x16x5632, .f32⟩
  | .local _ .vmem, ⟨7, _⟩ => ⟨S1x16x5632, .f32⟩
  | .local _ .vmem, ⟨8, _⟩ => ⟨S1x16x5632, .f32⟩
  | .local _ .vmem, ⟨9, _⟩ => ⟨S1x16x5632, .f32⟩
  | .local _ .vmem, ⟨10, _⟩ => ⟨S1x16x5632, .f32⟩
  | .local _ .vmem, ⟨11, _⟩ => ⟨S1x16x5632, .f32⟩
  | .local _ .vmem, ⟨12, _⟩ => ⟨S1x16x5632, .f32⟩
  | .local _ .vmem, ⟨13, _⟩ => ⟨S1x16x5632, .f32⟩
  | .local _ .vmem, ⟨14, _⟩ => ⟨S1x16x5632, .f32⟩
  | .local _ .vmem, ⟨15, _⟩ => ⟨S1x16x5632, .f32⟩
  | .local _ .vmem, ⟨16, _⟩ => ⟨S1x16x5632, .f32⟩
  | .local _ .vmem, ⟨17, _⟩ => ⟨S1x16x5632, .f32⟩
  | .local _ .vmem, ⟨18, _⟩ => ⟨S1x256x512, .bf16⟩
  | .local _ .vmem, ⟨19, _⟩ => ⟨S1x256x512, .bf16⟩
  | .local _ .vmem, ⟨20, _⟩ => ⟨S16x5632, .bf16⟩
  | .local _ .vmem, ⟨21, _⟩ => ⟨S16x5632, .bf16⟩
  | .local _ .vmem, ⟨22, _⟩ => ⟨S16x5632, .bf16⟩
  | .local _ .vmem, ⟨23, _⟩ => ⟨S16x5632, .bf16⟩
  | .local _ .vmem, ⟨24, _⟩ => ⟨S16x5632, .bf16⟩
  | .local _ .vmem, ⟨25, _⟩ => ⟨S16x5632, .bf16⟩
  | .local _ .vmem, ⟨26, _⟩ => ⟨S16x5632, .bf16⟩
  | .local _ .vmem, ⟨27, _⟩ => ⟨S16x5632, .bf16⟩
  | .local _ .vmem, ⟨28, _⟩ => ⟨S16x5632, .bf16⟩
  | .local _ .vmem, ⟨29, _⟩ => ⟨S16x5632, .bf16⟩
  | .local _ .vmem, ⟨30, _⟩ => ⟨S16x5632, .bf16⟩
  | .local _ .vmem, ⟨31, _⟩ => ⟨S16x5632, .bf16⟩
  | .local _ .vmem, ⟨32, _⟩ => ⟨S4x16x256x128, .bf16⟩
  | .local _ .vmem, ⟨33, _⟩ => ⟨S4x16x128x256, .bf16⟩
  | .local _ .vmem, ⟨34, _⟩ => ⟨S4x16x128, .f32⟩
  | .local _ .vmem, ⟨35, _⟩ => ⟨S4x16x256, .f32⟩
  | .local _ .vmem, ⟨36, _⟩ => ⟨S4x256x256, .f32⟩
  | .local _ .vmem, ⟨37, _⟩ => ⟨S4x256x256, .f32⟩
  | .local _ .vmem, ⟨38, _⟩ => ⟨S4x128x256, .f32⟩
  | _, _ => ⟨S4x4096x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 2, 16], ![false, false, false]⟩

def k0_off1 (i : grid0.Coords) : Fin 4 → Nat :=
  let c0_328 : Index := 0#32
  let arg2 : BitVec 32 := BitVec.ofNat 32 (i 2).val
  let v1194 : Index := Scalar.indexCast arg2
  let c0_329 : Index := 0#32
  let c0_330 : Index := 0#32
  ![0, v1194.toNat, 0, 0]
def k0_off2 (i : grid0.Coords) : Fin 4 → Nat :=
  let c1_333 : Index := 1#32
  let arg2 : BitVec 32 := BitVec.ofNat 32 (i 2).val
  let v1200 : Index := Scalar.indexCast arg2
  let c0_334 : Index := 0#32
  let c0_335 : Index := 0#32
  ![1, v1200.toNat, 0, 0]
def k0_off3 (i : grid0.Coords) : Fin 4 → Nat :=
  let c2_338 : Index := 2#32
  let arg2 : BitVec 32 := BitVec.ofNat 32 (i 2).val
  let v1206 : Index := Scalar.indexCast arg2
  let c0_339 : Index := 0#32
  let c0_340 : Index := 0#32
  ![2, v1206.toNat, 0, 0]
def k0_off4 (i : grid0.Coords) : Fin 4 → Nat :=
  let c3_343 : Index := 3#32
  let arg2 : BitVec 32 := BitVec.ofNat 32 (i 2).val
  let v1212 : Index := Scalar.indexCast arg2
  let c0_344 : Index := 0#32
  let c0_345 : Index := 0#32
  ![3, v1212.toNat, 0, 0]
def k0_off5 (i : grid0.Coords) : Fin 4 → Nat :=
  let c0_356 : Index := 0#32
  let arg2 : BitVec 32 := BitVec.ofNat 32 (i 2).val
  let v1246 : Index := Scalar.indexCast arg2
  let c0_357 : Index := 0#32
  let c0_358 : Index := 0#32
  ![0, v1246.toNat, 0, 0]
def k0_off6 (i : grid0.Coords) : Fin 4 → Nat :=
  let c1_360 : Index := 1#32
  let arg2 : BitVec 32 := BitVec.ofNat 32 (i 2).val
  let v1251 : Index := Scalar.indexCast arg2
  let c0_361 : Index := 0#32
  let c0_362 : Index := 0#32
  ![1, v1251.toNat, 0, 0]
def k0_off7 (i : grid0.Coords) : Fin 4 → Nat :=
  let c2_364 : Index := 2#32
  let arg2 : BitVec 32 := BitVec.ofNat 32 (i 2).val
  let v1256 : Index := Scalar.indexCast arg2
  let c0_365 : Index := 0#32
  let c0_366 : Index := 0#32
  ![2, v1256.toNat, 0, 0]
def k0_off8 (i : grid0.Coords) : Fin 4 → Nat :=
  let c3_368 : Index := 3#32
  let arg2 : BitVec 32 := BitVec.ofNat 32 (i 2).val
  let v1261 : Index := Scalar.indexCast arg2
  let c0_369 : Index := 0#32
  let c0_370 : Index := 0#32
  ![3, v1261.toNat, 0, 0]
def k0_off9 : Fin 4 → Nat :=
  let c0_386 : Index := 0#32
  let c0_i32_384 : BitVec 32 := 0#32
  let c15_i32_385 : BitVec 32 := 15#32
  let v1278 : BitVec 32 := Scalar.minsi c0_i32_384 c15_i32_385
  let v1279 : Index := Scalar.indexCast v1278
  let c0_387 : Index := 0#32
  let c0_388 : Index := 0#32
  ![0, v1279.toNat, 0, 0]
def k0_off10 : Fin 4 → Nat :=
  let c1_396 : Index := 1#32
  let c0_i32_394 : BitVec 32 := 0#32
  let c15_i32_395 : BitVec 32 := 15#32
  let v1288 : BitVec 32 := Scalar.minsi c0_i32_394 c15_i32_395
  let v1289 : Index := Scalar.indexCast v1288
  let c0_397 : Index := 0#32
  let c0_398 : Index := 0#32
  ![1, v1289.toNat, 0, 0]
def k0_off11 : Fin 4 → Nat :=
  let c2_406 : Index := 2#32
  let c0_i32_404 : BitVec 32 := 0#32
  let c15_i32_405 : BitVec 32 := 15#32
  let v1298 : BitVec 32 := Scalar.minsi c0_i32_404 c15_i32_405
  let v1299 : Index := Scalar.indexCast v1298
  let c0_407 : Index := 0#32
  let c0_408 : Index := 0#32
  ![2, v1299.toNat, 0, 0]
def k0_off12 : Fin 4 → Nat :=
  let c3_416 : Index := 3#32
  let c0_i32_414 : BitVec 32 := 0#32
  let c15_i32_415 : BitVec 32 := 15#32
  let v1308 : BitVec 32 := Scalar.minsi c0_i32_414 c15_i32_415
  let v1309 : Index := Scalar.indexCast v1308
  let c0_417 : Index := 0#32
  let c0_418 : Index := 0#32
  ![3, v1309.toNat, 0, 0]
@[reducible] def k0_t1_loop (i : grid0.Coords) : Scf.Loop 32 :=
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_434 : BitVec 32 := 1#32
  ⟨c0_i32_432, v1340, c1_i32_434⟩
def k0_off13 (i : grid0.Coords) (k0_t1 : Fin (k0_t1_loop i).trips) (c1_i32_461 : BitVec 32) : Fin 4 → Nat :=
  let c0_463 : Index := 0#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1380 : BitVec 32 := Scalar.addi v1379 c1_i32_461
  let c15_i32_462 : BitVec 32 := 15#32
  let v1381 : BitVec 32 := Scalar.minsi v1380 c15_i32_462
  let v1382 : Index := Scalar.indexCast v1381
  let c0_464 : Index := 0#32
  let c0_465 : Index := 0#32
  ![0, v1382.toNat, 0, 0]
def k0_off14 (i : grid0.Coords) (k0_t1 : Fin (k0_t1_loop i).trips) (c1_i32_461 : BitVec 32) : Fin 4 → Nat :=
  let c1_472 : Index := 1#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1380 : BitVec 32 := Scalar.addi v1379 c1_i32_461
  let c15_i32_471 : BitVec 32 := 15#32
  let v1391 : BitVec 32 := Scalar.minsi v1380 c15_i32_471
  let v1392 : Index := Scalar.indexCast v1391
  let c0_473 : Index := 0#32
  let c0_474 : Index := 0#32
  ![1, v1392.toNat, 0, 0]
def k0_off15 (i : grid0.Coords) (k0_t1 : Fin (k0_t1_loop i).trips) (c1_i32_461 : BitVec 32) : Fin 4 → Nat :=
  let c2_481 : Index := 2#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1380 : BitVec 32 := Scalar.addi v1379 c1_i32_461
  let c15_i32_480 : BitVec 32 := 15#32
  let v1401 : BitVec 32 := Scalar.minsi v1380 c15_i32_480
  let v1402 : Index := Scalar.indexCast v1401
  let c0_482 : Index := 0#32
  let c0_483 : Index := 0#32
  ![2, v1402.toNat, 0, 0]
def k0_off16 (i : grid0.Coords) (k0_t1 : Fin (k0_t1_loop i).trips) (c1_i32_461 : BitVec 32) : Fin 4 → Nat :=
  let c3_490 : Index := 3#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1380 : BitVec 32 := Scalar.addi v1379 c1_i32_461
  let c15_i32_489 : BitVec 32 := 15#32
  let v1411 : BitVec 32 := Scalar.minsi v1380 c15_i32_489
  let v1412 : Index := Scalar.indexCast v1411
  let c0_491 : Index := 0#32
  let c0_492 : Index := 0#32
  ![3, v1412.toNat, 0, 0]
def k0_off17 (i : grid0.Coords) (k0_t1 : Fin (k0_t1_loop i).trips) : Fin 3 → Nat :=
  let c0_498 : Index := 0#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1421 : Index := Scalar.indexCast v1379
  let c0_499 : Index := 0#32
  ![0, v1421.toNat, 0]
def k0_off18 (i : grid0.Coords) (k0_t1 : Fin (k0_t1_loop i).trips) : Fin 3 → Nat :=
  let c1_500 : Index := 1#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1424 : Index := Scalar.indexCast v1379
  let c0_501 : Index := 0#32
  ![1, v1424.toNat, 0]
def k0_off19 (i : grid0.Coords) (k0_t1 : Fin (k0_t1_loop i).trips) : Fin 3 → Nat :=
  let c2_502 : Index := 2#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1427 : Index := Scalar.indexCast v1379
  let c0_503 : Index := 0#32
  ![2, v1427.toNat, 0]
def k0_off20 (i : grid0.Coords) (k0_t1 : Fin (k0_t1_loop i).trips) : Fin 3 → Nat :=
  let c3_504 : Index := 3#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1430 : Index := Scalar.indexCast v1379
  let c0_505 : Index := 0#32
  ![3, v1430.toNat, 0]
def k0_off21 (i : grid0.Coords) (k0_t1 : Fin (k0_t1_loop i).trips) : Fin 4 → Nat :=
  let c0_526 : Index := 0#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1497 : Index := Scalar.indexCast v1379
  let c0_527 : Index := 0#32
  let c0_528 : Index := 0#32
  ![0, v1497.toNat, 0, 0]
def k0_off22 (i : grid0.Coords) (k0_t1 : Fin (k0_t1_loop i).trips) : Fin 4 → Nat :=
  let c1_530 : Index := 1#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1502 : Index := Scalar.indexCast v1379
  let c0_531 : Index := 0#32
  let c0_532 : Index := 0#32
  ![1, v1502.toNat, 0, 0]
def k0_off23 (i : grid0.Coords) (k0_t1 : Fin (k0_t1_loop i).trips) : Fin 4 → Nat :=
  let c2_534 : Index := 2#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1507 : Index := Scalar.indexCast v1379
  let c0_535 : Index := 0#32
  let c0_536 : Index := 0#32
  ![2, v1507.toNat, 0, 0]
def k0_off24 (i : grid0.Coords) (k0_t1 : Fin (k0_t1_loop i).trips) : Fin 4 → Nat :=
  let c3_538 : Index := 3#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let v1512 : Index := Scalar.indexCast v1379
  let c0_539 : Index := 0#32
  let c0_540 : Index := 0#32
  ![3, v1512.toNat, 0, 0]
def k0_off25 (i : grid0.Coords) (k0_t1 : Fin (k0_t1_loop i).trips) : Fin 3 → Nat :=
  let c0_604 : Index := 0#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1591 : Index := Scalar.indexCast v1590
  let c0_605 : Index := 0#32
  ![0, v1591.toNat, 0]
def k0_off26 (i : grid0.Coords) (k0_t1 : Fin (k0_t1_loop i).trips) : Fin 3 → Nat :=
  let c1_606 : Index := 1#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1594 : Index := Scalar.indexCast v1590
  let c0_607 : Index := 0#32
  ![1, v1594.toNat, 0]
def k0_off27 (i : grid0.Coords) (k0_t1 : Fin (k0_t1_loop i).trips) : Fin 3 → Nat :=
  let c2_608 : Index := 2#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1597 : Index := Scalar.indexCast v1590
  let c0_609 : Index := 0#32
  ![2, v1597.toNat, 0]
def k0_off28 (i : grid0.Coords) (k0_t1 : Fin (k0_t1_loop i).trips) : Fin 3 → Nat :=
  let c3_610 : Index := 3#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1600 : Index := Scalar.indexCast v1590
  let c0_611 : Index := 0#32
  ![3, v1600.toNat, 0]
def k0_off29 (i : grid0.Coords) (k0_t1 : Fin (k0_t1_loop i).trips) : Fin 4 → Nat :=
  let c0_632 : Index := 0#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1667 : Index := Scalar.indexCast v1590
  let c0_633 : Index := 0#32
  let c0_634 : Index := 0#32
  ![0, v1667.toNat, 0, 0]
def k0_off30 (i : grid0.Coords) (k0_t1 : Fin (k0_t1_loop i).trips) : Fin 4 → Nat :=
  let c1_636 : Index := 1#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1672 : Index := Scalar.indexCast v1590
  let c0_637 : Index := 0#32
  let c0_638 : Index := 0#32
  ![1, v1672.toNat, 0, 0]
def k0_off31 (i : grid0.Coords) (k0_t1 : Fin (k0_t1_loop i).trips) : Fin 4 → Nat :=
  let c2_640 : Index := 2#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1677 : Index := Scalar.indexCast v1590
  let c0_641 : Index := 0#32
  let c0_642 : Index := 0#32
  ![2, v1677.toNat, 0, 0]
def k0_off32 (i : grid0.Coords) (k0_t1 : Fin (k0_t1_loop i).trips) : Fin 4 → Nat :=
  let c3_644 : Index := 3#32
  let c2_i32_460 : BitVec 32 := 2#32
  let c0_i32_432 : BitVec 32 := 0#32
  let c1_i32_434 : BitVec 32 := 1#32
  let arg26 : BitVec 32 := Scf.iv c0_i32_432 c1_i32_434 k0_t1
  let v1379 : BitVec 32 := Scalar.muli c2_i32_460 arg26
  let c1_i32_603 : BitVec 32 := 1#32
  let v1590 : BitVec 32 := Scalar.addi v1379 c1_i32_603
  let v1682 : Index := Scalar.indexCast v1590
  let c0_645 : Index := 0#32
  let c0_646 : Index := 0#32
  ![3, v1682.toNat, 0, 0]
@[reducible] def k0_t2_loop (i : grid0.Coords) : Scf.Loop 32 :=
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let v1337 : BitVec 32 := Scalar.addi c0_i32_432 v1336
  let c1_i32_435 : BitVec 32 := 1#32
  ⟨v1340, v1337, c1_i32_435⟩
def k0_off33 (i : grid0.Coords) (k0_t2 : Fin (k0_t2_loop i).trips) (c1_i32_461 : BitVec 32) : Fin 4 → Nat :=
  let c0_463 : Index := 0#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1380 : BitVec 32 := Scalar.addi v1379 c1_i32_461
  let c15_i32_462 : BitVec 32 := 15#32
  let v1381 : BitVec 32 := Scalar.minsi v1380 c15_i32_462
  let v1382 : Index := Scalar.indexCast v1381
  let c0_464 : Index := 0#32
  let c0_465 : Index := 0#32
  ![0, v1382.toNat, 0, 0]
def k0_off34 (i : grid0.Coords) (k0_t2 : Fin (k0_t2_loop i).trips) (c1_i32_461 : BitVec 32) : Fin 4 → Nat :=
  let c1_472 : Index := 1#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1380 : BitVec 32 := Scalar.addi v1379 c1_i32_461
  let c15_i32_471 : BitVec 32 := 15#32
  let v1391 : BitVec 32 := Scalar.minsi v1380 c15_i32_471
  let v1392 : Index := Scalar.indexCast v1391
  let c0_473 : Index := 0#32
  let c0_474 : Index := 0#32
  ![1, v1392.toNat, 0, 0]
def k0_off35 (i : grid0.Coords) (k0_t2 : Fin (k0_t2_loop i).trips) (c1_i32_461 : BitVec 32) : Fin 4 → Nat :=
  let c2_481 : Index := 2#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1380 : BitVec 32 := Scalar.addi v1379 c1_i32_461
  let c15_i32_480 : BitVec 32 := 15#32
  let v1401 : BitVec 32 := Scalar.minsi v1380 c15_i32_480
  let v1402 : Index := Scalar.indexCast v1401
  let c0_482 : Index := 0#32
  let c0_483 : Index := 0#32
  ![2, v1402.toNat, 0, 0]
def k0_off36 (i : grid0.Coords) (k0_t2 : Fin (k0_t2_loop i).trips) (c1_i32_461 : BitVec 32) : Fin 4 → Nat :=
  let c3_490 : Index := 3#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1380 : BitVec 32 := Scalar.addi v1379 c1_i32_461
  let c15_i32_489 : BitVec 32 := 15#32
  let v1411 : BitVec 32 := Scalar.minsi v1380 c15_i32_489
  let v1412 : Index := Scalar.indexCast v1411
  let c0_491 : Index := 0#32
  let c0_492 : Index := 0#32
  ![3, v1412.toNat, 0, 0]
def k0_off37 (i : grid0.Coords) (k0_t2 : Fin (k0_t2_loop i).trips) : Fin 3 → Nat :=
  let c0_498 : Index := 0#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1421 : Index := Scalar.indexCast v1379
  let c0_499 : Index := 0#32
  ![0, v1421.toNat, 0]
def k0_off38 (i : grid0.Coords) (k0_t2 : Fin (k0_t2_loop i).trips) : Fin 3 → Nat :=
  let c1_500 : Index := 1#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1424 : Index := Scalar.indexCast v1379
  let c0_501 : Index := 0#32
  ![1, v1424.toNat, 0]
def k0_off39 (i : grid0.Coords) (k0_t2 : Fin (k0_t2_loop i).trips) : Fin 3 → Nat :=
  let c2_502 : Index := 2#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1427 : Index := Scalar.indexCast v1379
  let c0_503 : Index := 0#32
  ![2, v1427.toNat, 0]
def k0_off40 (i : grid0.Coords) (k0_t2 : Fin (k0_t2_loop i).trips) : Fin 3 → Nat :=
  let c3_504 : Index := 3#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1430 : Index := Scalar.indexCast v1379
  let c0_505 : Index := 0#32
  ![3, v1430.toNat, 0]
def k0_off41 (i : grid0.Coords) (k0_t2 : Fin (k0_t2_loop i).trips) : Fin 4 → Nat :=
  let c0_526 : Index := 0#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1497 : Index := Scalar.indexCast v1379
  let c0_527 : Index := 0#32
  let c0_528 : Index := 0#32
  ![0, v1497.toNat, 0, 0]
def k0_off42 (i : grid0.Coords) (k0_t2 : Fin (k0_t2_loop i).trips) : Fin 4 → Nat :=
  let c1_530 : Index := 1#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1502 : Index := Scalar.indexCast v1379
  let c0_531 : Index := 0#32
  let c0_532 : Index := 0#32
  ![1, v1502.toNat, 0, 0]
def k0_off43 (i : grid0.Coords) (k0_t2 : Fin (k0_t2_loop i).trips) : Fin 4 → Nat :=
  let c2_534 : Index := 2#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1507 : Index := Scalar.indexCast v1379
  let c0_535 : Index := 0#32
  let c0_536 : Index := 0#32
  ![2, v1507.toNat, 0, 0]
def k0_off44 (i : grid0.Coords) (k0_t2 : Fin (k0_t2_loop i).trips) : Fin 4 → Nat :=
  let c3_538 : Index := 3#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let v1512 : Index := Scalar.indexCast v1379
  let c0_539 : Index := 0#32
  let c0_540 : Index := 0#32
  ![3, v1512.toNat, 0, 0]
def k0_off45 (i : grid0.Coords) (k0_t2 : Fin (k0_t2_loop i).trips) : Fin 3 → Nat :=
  let c0_604 : Index := 0#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1591 : Index := Scalar.indexCast v1590
  let c0_605 : Index := 0#32
  ![0, v1591.toNat, 0]
def k0_off46 (i : grid0.Coords) (k0_t2 : Fin (k0_t2_loop i).trips) : Fin 3 → Nat :=
  let c1_606 : Index := 1#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1594 : Index := Scalar.indexCast v1590
  let c0_607 : Index := 0#32
  ![1, v1594.toNat, 0]
def k0_off47 (i : grid0.Coords) (k0_t2 : Fin (k0_t2_loop i).trips) : Fin 3 → Nat :=
  let c2_608 : Index := 2#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1597 : Index := Scalar.indexCast v1590
  let c0_609 : Index := 0#32
  ![2, v1597.toNat, 0]
def k0_off48 (i : grid0.Coords) (k0_t2 : Fin (k0_t2_loop i).trips) : Fin 3 → Nat :=
  let c3_610 : Index := 3#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1600 : Index := Scalar.indexCast v1590
  let c0_611 : Index := 0#32
  ![3, v1600.toNat, 0]
def k0_off49 (i : grid0.Coords) (k0_t2 : Fin (k0_t2_loop i).trips) : Fin 4 → Nat :=
  let c0_632 : Index := 0#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1667 : Index := Scalar.indexCast v1590
  let c0_633 : Index := 0#32
  let c0_634 : Index := 0#32
  ![0, v1667.toNat, 0, 0]
def k0_off50 (i : grid0.Coords) (k0_t2 : Fin (k0_t2_loop i).trips) : Fin 4 → Nat :=
  let c1_636 : Index := 1#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1672 : Index := Scalar.indexCast v1590
  let c0_637 : Index := 0#32
  let c0_638 : Index := 0#32
  ![1, v1672.toNat, 0, 0]
def k0_off51 (i : grid0.Coords) (k0_t2 : Fin (k0_t2_loop i).trips) : Fin 4 → Nat :=
  let c2_640 : Index := 2#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1677 : Index := Scalar.indexCast v1590
  let c0_641 : Index := 0#32
  let c0_642 : Index := 0#32
  ![2, v1677.toNat, 0, 0]
def k0_off52 (i : grid0.Coords) (k0_t2 : Fin (k0_t2_loop i).trips) : Fin 4 → Nat :=
  let c3_644 : Index := 3#32
  let c2_i32_460 : BitVec 32 := 2#32
  let c0_i32_432 : BitVec 32 := 0#32
  let arg2 : BitVec 32 := BitVec.ofNat 32 (i 2).val
  let c1_i32_424 : BitVec 32 := 1#32
  let v1318 : BitVec 32 := Scalar.addi arg2 c1_i32_424
  let c0_i32_426 : BitVec 32 := 0#32
  let v1320 : BitVec 1 := Scalar.cmpi .sgt v1318 c0_i32_426
  let v1321 : BitVec 32 := Scalar.extui v1320
  let c0_i32_427 : BitVec 32 := 0#32
  let v1322 : BitVec 1 := Scalar.cmpi .slt v1318 c0_i32_427
  let v1323 : BitVec 32 := Scalar.extui v1322
  let v1324 : BitVec 32 := Scalar.subi v1321 v1323
  let c2_i32_425 : BitVec 32 := 2#32
  let c0_i32_428 : BitVec 32 := 0#32
  let v1325 : BitVec 1 := Scalar.cmpi .sgt c2_i32_425 c0_i32_428
  let v1326 : BitVec 32 := Scalar.extui v1325
  let c0_i32_429 : BitVec 32 := 0#32
  let v1327 : BitVec 1 := Scalar.cmpi .slt c2_i32_425 c0_i32_429
  let v1328 : BitVec 32 := Scalar.extui v1327
  let v1329 : BitVec 32 := Scalar.subi v1326 v1328
  let v1330 : BitVec 1 := Scalar.cmpi .ne v1324 v1329
  let v1331 : BitVec 32 := Scalar.remsi v1318 c2_i32_425
  let c0_i32_430 : BitVec 32 := 0#32
  let v1332 : BitVec 1 := Scalar.cmpi .ne v1331 c0_i32_430
  let v1333 : BitVec 1 := Scalar.andi v1330 v1332
  let v1319 : BitVec 32 := Scalar.divsi v1318 c2_i32_425
  let c1_i32_431 : BitVec 32 := 1#32
  let v1334 : BitVec 32 := Scalar.subi v1319 c1_i32_431
  let v1335 : BitVec 32 := Scalar.select v1333 v1334 v1319
  let v1336 : BitVec 32 := Scalar.subi v1335 c0_i32_432
  let c1_i32_433 : BitVec 32 := 1#32
  let v1338 : BitVec 32 := Scalar.divsi v1336 c1_i32_433
  let v1339 : BitVec 32 := Scalar.muli v1338 c1_i32_433
  let v1340 : BitVec 32 := Scalar.addi c0_i32_432 v1339
  let c1_i32_435 : BitVec 32 := 1#32
  let arg26 : BitVec 32 := Scf.iv v1340 c1_i32_435 k0_t2
  let v1379 : BitVec 32 := Scalar.muli c2_i32_460 arg26
  let c1_i32_603 : BitVec 32 := 1#32
  let v1590 : BitVec 32 := Scalar.addi v1379 c1_i32_603
  let v1682 : Index := Scalar.indexCast v1590
  let c0_645 : Index := 0#32
  let c0_646 : Index := 0#32
  ![3, v1682.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let c0_i32 : BitVec 32 := 0#32
  let c0_i32_0 : BitVec 32 := 0#32
  ![c1_i32.toNat, v3.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let c0_i32 : BitVec 32 := 0#32
  let c0_i32_0 : BitVec 32 := 0#32
  ![c1_i32.toNat, v3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let c0_i32 : BitVec 32 := 0#32
  let c0_i32_0 : BitVec 32 := 0#32
  ![c1_i32.toNat, v3.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let c0_i32 : BitVec 32 := 0#32
  let c0_i32_0 : BitVec 32 := 0#32
  ![c1_i32.toNat, v3.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== Kernel7.lean ====
abbrev S4x4096x6400 : Shape := ⟨3, ![4, 4096, 6400]⟩
abbrev S3264 : Shape := ⟨1, ![3264]⟩
abbrev S1024 : Shape := ⟨1, ![1024]⟩
abbrev S64x1024 : Shape := ⟨2, ![64, 1024]⟩
abbrev S16x64 : Shape := ⟨2, ![16, 64]⟩
abbrev S_ : Shape := ⟨0, ![]⟩
abbrev S1x1024 : Shape := ⟨2, ![1, 1024]⟩
abbrev S192 : Shape := ⟨1, ![192]⟩
abbrev S256 : Shape := ⟨1, ![256]⟩
abbrev S1x256 : Shape := ⟨2, ![1, 256]⟩
abbrev S128x1024 : Shape := ⟨2, ![128, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x4096x1024 : Shape := ⟨3, ![4, 4096, 1024]⟩
abbrev S4x64x8x1024 : Shape := ⟨4, ![4, 64, 8, 1024]⟩
abbrev S1x512x1024 : Shape := ⟨3, ![1, 512, 1024]⟩
abbrev S1x512x256 : Shape := ⟨3, ![1, 512, 256]⟩
abbrev S1x8x1024 : Shape := ⟨3, ![1, 8, 1024]⟩
abbrev S1x8x256 : Shape := ⟨3, ![1, 8, 256]⟩
abbrev S1x8x8x1024 : Shape := ⟨4, ![1, 8, 8, 1024]⟩
abbrev S8x1 : Shape := ⟨2, ![8, 1]⟩
abbrev S512x1024 : Shape := ⟨2, ![512, 1024]⟩
abbrev S1x1x1024 : Shape := ⟨3, ![1, 1, 1024]⟩
abbrev S8x1024 : Shape := ⟨2, ![8, 1024]⟩
abbrev S504x1024 : Shape := ⟨2, ![504, 1024]⟩
abbrev S512x256 : Shape := ⟨2, ![512, 256]⟩
abbrev S1x1x256 : Shape := ⟨3, ![1, 1, 256]⟩
abbrev S8x256 : Shape := ⟨2, ![8, 256]⟩
abbrev S504x256 : Shape := ⟨2, ![504, 256]⟩
abbrev S512x128 : Shape := ⟨2, ![512, 128]⟩
abbrev S512x3072 : Shape := ⟨2, ![512, 3072]⟩
abbrev S8x64x1024 : Shape := ⟨3, ![8, 64, 1024]⟩
abbrev S8x1x1024 : Shape := ⟨3, ![8, 1, 1024]⟩
abbrev S8x8x1024 : Shape := ⟨3, ![8, 8, 1024]⟩

abbrev nBuf : Space → Nat
  | .hbm => 136
  | .vmem => 50
  | .smem => 0
  | _ => 0

abbrev hbmTy0_0 (i : Nat) : BufTy := match i % 128 with
  | 0 => ⟨S4x4096x6400, .f32⟩
  | 1 => ⟨S3264, .f32⟩
  | 2 => ⟨S1024, .f32⟩
  | 3 => ⟨S64x1024, .f32⟩
  | 4 => ⟨S1024, .f32⟩
  | 5 => ⟨S64x1024, .f32⟩
  | 6 => ⟨S64x1024, .f32⟩
  | 7 => ⟨S1024, .f32⟩
  | 8 => ⟨S1024, .f32⟩
  | 9 => ⟨S16x64, .f32⟩
  | 10 => ⟨S_, .f32⟩
  | 11 => ⟨S64x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S192, .f32⟩
  | 19 => ⟨S_, .i32⟩
  | 20 => ⟨S_, .f32⟩
  | 21 => ⟨S256, .f32⟩
  | 22 => ⟨S1x256, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S128x1024, .f32⟩
  | 29 => ⟨S128x1024, .bf16⟩
  | 30 => ⟨S128x1024, .f32⟩
  | 31 => ⟨S128x1024, .bf16⟩
  | 32 => ⟨S128x1024, .f32⟩
  | 33 => ⟨S128x1024, .bf16⟩
  | 34 => ⟨S512, .i32⟩
  | 35 => ⟨S512x1, .i32⟩
  | 36 => ⟨S_, .i32⟩
  | 37 => ⟨S_, .i32⟩
  | 38 => ⟨S512x1, .i32⟩
  | 39 => ⟨S512x1, .i32⟩
  | 40 => ⟨S512x1, .i32⟩
  | 41 => ⟨S_, .i32⟩
  | 42 => ⟨S512x1, .i32⟩
  | 43 => ⟨S512x1, .i1⟩
  | 44 => ⟨S512x1, .i32⟩
  | 45 => ⟨S512x1, .i32⟩
  | 46 => ⟨S_, .i32⟩
  | 47 => ⟨S512x1, .i32⟩
  | 48 => ⟨S512x1, .i1⟩
  | 49 => ⟨S512x1, .i1⟩
  | 50 => ⟨S_, .i32⟩
  | 51 => ⟨S512x1, .i32⟩
  | 52 => ⟨S512x1, .i32⟩
  | 53 => ⟨S512x1, .i32⟩
  | 54 => ⟨S1x512, .i32⟩
  | 55 => ⟨S_, .i32⟩
  | 56 => ⟨S_, .i32⟩
  | 57 => ⟨S1x512, .i32⟩
  | 58 => ⟨S1x512, .i32⟩
  | 59 => ⟨S1x512, .i32⟩
  | 60 => ⟨S_, .i32⟩
  | 61 => ⟨S1x512, .i32⟩
  | 62 => ⟨S1x512, .i1⟩
  | 63 => ⟨S1x512, .i32⟩
  | 64 => ⟨S1x512, .i32⟩
  | 65 => ⟨S_, .i32⟩
  | 66 => ⟨S1x512, .i32⟩
  | 67 => ⟨S1x512, .i1⟩
  | 68 => ⟨S1x512, .i1⟩
  | 69 => ⟨S_, .i32⟩
  | 70 => ⟨S1x512, .i32⟩
  | 71 => ⟨S1x512, .i32⟩
  | 72 => ⟨S1x512, .i32⟩
  | 73 => ⟨S512x512, .i32⟩
  | 74 => ⟨S512x512, .i32⟩
  | 75 => ⟨S512x512, .i1⟩
  | 76 => ⟨S1x512, .i32⟩
  | 77 => ⟨S512x1, .i32⟩
  | 78 => ⟨S512x512, .i32⟩
  | 79 => ⟨S512x512, .i32⟩
  | 80 => ⟨S512x512, .i1⟩
  | 81 => ⟨S512x512, .i1⟩
  | 82 => ⟨S512x512, .bf16⟩
  | 83 => ⟨S128, .i32⟩
  | 84 => ⟨S128x1, .i32⟩
  | 85 => ⟨S_, .i32⟩
  | 86 => ⟨S_, .i32⟩
  | 87 => ⟨S128x1, .i32⟩
  | 88 => ⟨S128x1, .i32⟩
  | 89 => ⟨S128x1, .i32⟩
  | 90 => ⟨S_, .i32⟩
  | 91 => ⟨S128x1, .i32⟩
  | 92 => ⟨S128x1, .i1⟩
  | 93 => ⟨S128x1, .i32⟩
  | 94 => ⟨S128x1, .i32⟩
  | 95 => ⟨S_, .i32⟩
  | 96 => ⟨S128x1, .i32⟩
  | 97 => ⟨S128x1, .i1⟩
  | 98 => ⟨S128x1, .i1⟩
  | 99 => ⟨S_, .i32⟩
  | 100 => ⟨S128x1, .i32⟩
  | 101 => ⟨S128x1, .i32⟩
  | 102 => ⟨S128x1, .i32⟩
  | 103 => ⟨S1x128, .i32⟩
  | 104 => ⟨S_, .i32⟩
  | 105 => ⟨S_, .i32⟩
  | 106 => ⟨S1x128, .i32⟩
  | 107 => ⟨S1x128, .i32⟩
  | 108 => ⟨S1x128, .i32⟩
  | 109 => ⟨S_, .i32⟩
  | 110 => ⟨S1x128, .i32⟩
  | 111 => ⟨S1x128, .i1⟩
  | 112 => ⟨S1x128, .i32⟩
  | 113 => ⟨S1x128, .i32⟩
  | 114 => ⟨S_, .i32⟩
  | 115 => ⟨S1x128, .i32⟩
  | 116 => ⟨S1x128, .i1⟩
  | 117 => ⟨S1x128, .i1⟩
  | 118 => ⟨S_, .i32⟩
  | 119 => ⟨S1x128, .i32⟩
  | 120 => ⟨S1x128, .i32⟩
  | 121 => ⟨S1x128, .i32⟩
  | 122 => ⟨S128x128, .i32⟩
  | 123 => ⟨S128x128, .i32⟩
  | 124 => ⟨S128x128, .i1⟩
  | 125 => ⟨S128x128, .bf16⟩
  | 126 => ⟨S4x4096x1024, .bf16⟩
  | 127 => ⟨S4x4096x1024, .bf16⟩
  | _ => ⟨S4x4096x6400, .f32⟩

abbrev hbmTy0_1 (i : Nat) : BufTy := match i % 128 with
  | 0 => ⟨S4x4096x1024, .bf16⟩
  | 1 => ⟨S4x4096x1024, .bf16⟩
  | 2 => ⟨S4x4096x1024, .bf16⟩
  | 3 => ⟨S4x4096x1024, .bf16⟩
  | 4 => ⟨S4x4096x1024, .bf16⟩
  | 5 => ⟨S4x64x8x1024, .f32⟩
  | 6 => ⟨S4x4096x1024, .f32⟩
  | 7 => ⟨S4x4096x1024, .f32⟩
  | _ => ⟨S4x4096x6400, .f32⟩

abbrev hbmTy (i : Nat) : BufTy := match i / 128 with
  | 0 => hbmTy0_0 i
  | 1 => hbmTy0_1 i
  | _ => ⟨S4x4096x6400, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x256, .f32⟩
  | .local _ .vmem, ⟨7, _⟩ => ⟨S1x512x256, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x256, .f32⟩
  | .local _ .vmem, ⟨15, _⟩ => ⟨S1x8x256, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x256, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S512x512, .bf16⟩
  | .local _ .vmem, ⟨29, _⟩ => ⟨S128x128, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x1024, .bf16⟩
  | .local _ .vmem, ⟨38, _⟩ => ⟨S1x512x1024, .bf16⟩
  | .local _ .vmem, ⟨39, _⟩ => ⟨S1x512x1024, .bf16⟩
  | .local _ .vmem, ⟨40, _⟩ => ⟨S1x512x1024, .bf16⟩
  | .local _ .vmem, ⟨41, _⟩ => ⟨S1x512x1024, .bf16⟩
  | .local _ .vmem, ⟨42, _⟩ => ⟨S1x512x1024, .bf16⟩
  | .local _ .vmem, ⟨43, _⟩ => ⟨S1x512x1024, .bf16⟩
  | .local _ .vmem, ⟨44, _⟩ => ⟨S1x8x8x1024, .f32⟩
  | .local _ .vmem, ⟨45, _⟩ => ⟨S1x8x8x1024, .f32⟩
  | .local _ .vmem, ⟨46, _⟩ => ⟨S1x512x1024, .f32⟩
  | .local _ .vmem, ⟨47, _⟩ => ⟨S1x512x1024, .f32⟩
  | .local _ .vmem, ⟨48, _⟩ => ⟨S1x512x1024, .f32⟩
  | .local _ .vmem, ⟨49, _⟩ => ⟨S1x512x1024, .f32⟩
  | _, _ => ⟨S4x4096x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v23 : Ref sig .tc := ⟨.hbm, 53, rfl⟩
abbrev main_v24 : Ref sig .tc := ⟨.hbm, 54, rfl⟩
abbrev main_c_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_2 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_c : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_0 : Ref sig .tc := ⟨.hbm, 99, rfl⟩
abbrev main_call3_v12 : Ref sig .tc := ⟨.hbm, 100, rfl⟩
abbrev main_call3_v13 : Ref sig .tc := ⟨.hbm, 101, rfl⟩
abbrev main_v38 : Ref sig .tc := ⟨.hbm, 102, rfl⟩
abbrev main_v39 : Ref sig .tc := ⟨.hbm, 103, rfl⟩
abbrev main_c_3 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45_0 : Ref sig .tc := ⟨.hbm, 126, rfl⟩
abbrev main_v45_1 : Ref sig .tc := ⟨.hbm, 127, rfl⟩
abbrev main_v45_2 : Ref sig .tc := ⟨.hbm, 128, rfl⟩
abbrev main_v45_3 : Ref sig .tc := ⟨.hbm, 129, rfl⟩
abbrev main_v45_4 : Ref sig .tc := ⟨.hbm, 130, rfl⟩
abbrev main_v45_5 : Ref sig .tc := ⟨.hbm, 131, rfl⟩
abbrev main_v45_6 : Ref sig .tc := ⟨.hbm, 132, rfl⟩
abbrev main_v45_7 : Ref sig .tc := ⟨.hbm, 133, rfl⟩
abbrev main_v45_8 : Ref sig .tc := ⟨.hbm, 134, rfl⟩
abbrev main_v45_9 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_stg31_0 : Ref sig .tc := ⟨.vmem, 48, rfl⟩
abbrev cc0_stg31_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47
abbrev cc0_sem31_0 : DmaSem sig := 48
abbrev cc0_sem31_1 : DmaSem sig := 49

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let c0_i32_0 : BitVec 32 := 0#32
  ![arg0.toNat, v2.toNat, c24_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x8x8x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x512x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x512x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]
-- ==== Kernel8.lean ====
abbrev S4x4096x1024 : Shape := ⟨3, ![4, 4096, 1024]⟩
abbrev S4x64x8x1024 : Shape := ⟨4, ![4, 64, 8, 1024]⟩
abbrev S1x1024 : Shape := ⟨2, ![1, 1024]⟩
abbrev S4x2048x5632 : Shape := ⟨3, ![4, 2048, 5632]⟩
abbrev S4x5632x2048 : Shape := ⟨3, ![4, 5632, 2048]⟩
abbrev S2048x5632 : Shape := ⟨2, ![2048, 5632]⟩
abbrev S5632x2048 : Shape := ⟨2, ![5632, 2048]⟩
abbrev S1x512x1024 : Shape := ⟨3, ![1, 512, 1024]⟩
abbrev S1x8x8x1024 : Shape := ⟨4, ![1, 8, 8, 1024]⟩
abbrev S1x64x5632 : Shape := ⟨3, ![1, 64, 5632]⟩
abbrev S1x176x2048 : Shape := ⟨3, ![1, 176, 2048]⟩
abbrev S64x5632 : Shape := ⟨2, ![64, 5632]⟩
abbrev S176x2048 : Shape := ⟨2, ![176, 2048]⟩
abbrev S8x128x128 : Shape := ⟨3, ![8, 128, 128]⟩
abbrev S64x128 : Shape := ⟨2, ![64, 128]⟩
abbrev S128x128 : Shape := ⟨2, ![128, 128]⟩
abbrev S1x128 : Shape := ⟨2, ![1, 128]⟩
abbrev S1x64x128 : Shape := ⟨3, ![1, 64, 128]⟩
abbrev S128x64 : Shape := ⟨2, ![128, 64]⟩
abbrev S1x1x8x128 : Shape := ⟨4, ![1, 1, 8, 128]⟩
abbrev S8x128 : Shape := ⟨2, ![8, 128]⟩
abbrev S128x8 : Shape := ⟨2, ![128, 8]⟩
abbrev S128x1 : Shape := ⟨2, ![128, 1]⟩
abbrev S256x128 : Shape := ⟨2, ![256, 128]⟩
abbrev S128x256 : Shape := ⟨2, ![128, 256]⟩
abbrev S64x256 : Shape := ⟨2, ![64, 256]⟩
abbrev S1x128x128 : Shape := ⟨3, ![1, 128, 128]⟩

abbrev nBuf : Space → Nat
  | .hbm => 25
  | .vmem => 49
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .bf16⟩
  | .hbm, ⟨3, _⟩ => ⟨S4x4096x1024, .bf16⟩
  | .hbm, ⟨4, _⟩ => ⟨S4x4096x1024, .bf16⟩
  | .hbm, ⟨5, _⟩ => ⟨S4x4096x1024, .bf16⟩
  | .hbm, ⟨6, _⟩ => ⟨S4x4096x1024, .bf16⟩
  | .hbm, ⟨7, _⟩ => ⟨S4x64x8x1024, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1x1024, .f32⟩
  | .hbm, ⟨12, _⟩ => ⟨S4x2048x5632, .f32⟩
  | .hbm, ⟨13, _⟩ => ⟨S4x2048x5632, .f32⟩
  | .hbm, ⟨14, _⟩ => ⟨S4x5632x2048, .f32⟩
  | .hbm, ⟨15, _⟩ => ⟨S4x2048x5632, .f32⟩
  | .hbm, ⟨16, _⟩ => ⟨S4x2048x5632, .f32⟩
  | .hbm, ⟨17, _⟩ => ⟨S4x5632x2048, .f32⟩
  | .hbm, ⟨18, _⟩ => ⟨S4x4096x1024, .bf16⟩
  | .hbm, ⟨19, _⟩ => ⟨S2048x5632, .bf16⟩
  | .hbm, ⟨20, _⟩ => ⟨S2048x5632, .bf16⟩
  | .hbm, ⟨21, _⟩ => ⟨S5632x2048, .bf16⟩
  | .hbm, ⟨22, _⟩ => ⟨S5632x2048, .bf16⟩
  | .hbm, ⟨23, _⟩ => ⟨S5632x2048, .bf16⟩
  | .hbm, ⟨24, _⟩ => ⟨S5632x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x8x8x1024, .f32⟩
  | .local _ .vmem, ⟨15, _⟩ => ⟨S1x8x8x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x1024, .f32⟩
  | .local _ .vmem, ⟨21, _⟩ => ⟨S1x1024, .f32⟩
  | .local _ .vmem, ⟨22, _⟩ => ⟨S1x64x5632, .f32⟩
  | .local _ .vmem, ⟨23, _⟩ => ⟨S1x64x5632, .f32⟩
  | .local _ .vmem, ⟨24, _⟩ => ⟨S1x64x5632, .f32⟩
  | .local _ .vmem, ⟨25, _⟩ => ⟨S1x64x5632, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .vmem, ⟨30, _⟩ => ⟨S1x176x2048, .f32⟩
  | .local _ .vmem, ⟨31, _⟩ => ⟨S1x176x2048, .f32⟩
  | .local _ .vmem, ⟨32, _⟩ => ⟨S1x176x2048, .f32⟩
  | .local _ .vmem, ⟨33, _⟩ => ⟨S1x176x2048, .f32⟩
  | .local _ .vmem, ⟨34, _⟩ => ⟨S1x512x1024, .bf16⟩
  | .local _ .vmem, ⟨35, _⟩ => ⟨S1x512x1024, .bf16⟩
  | .local _ .vmem, ⟨36, _⟩ => ⟨S64x5632, .bf16⟩
  | .local _ .vmem, ⟨37, _⟩ => ⟨S64x5632, .bf16⟩
  | .local _ .vmem, ⟨38, _⟩ => ⟨S64x5632, .bf16⟩
  | .local _ .vmem, ⟨39, _⟩ => ⟨S64x5632, .bf16⟩
  | .local _ .vmem, ⟨40, _⟩ => ⟨S176x2048, .bf16⟩
  | .local _ .vmem, ⟨41, _⟩ => ⟨S176x2048, .bf16⟩
  | .local _ .vmem, ⟨42, _⟩ => ⟨S176x2048, .bf16⟩
  | .local _ .vmem, ⟨43, _⟩ => ⟨S176x2048, .bf16⟩
  | .local _ .vmem, ⟨44, _⟩ => ⟨S176x2048, .bf16⟩
  | .local _ .vmem, ⟨45, _⟩ => ⟨S176x2048, .bf16⟩
  | .local _ .vmem, ⟨46, _⟩ => ⟨S176x2048, .bf16⟩
  | .local _ .vmem, ⟨47, _⟩ => ⟨S176x2048, .bf16⟩
  | .local _ .vmem, ⟨48, _⟩ => ⟨S8x128x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev main_v0_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_scratch0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem24_1 : DmaSem sig := 47

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_91 : BitVec 32 := 0#32
  let c4_i32 : BitVec 32 := 4#32
  let v175 : BitVec 32 := Scalar.addi c0_i32_91 c4_i32
  let c1_i32_92 : BitVec 32 := 1#32
  ⟨c0_i32_91, v175, c1_i32_92⟩
def k0_mult1 (k0_t1 : Fin k0_t1_loop.trips) : BitVec 32 :=
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let c0_i32_94 : BitVec 32 := 0#32
  let v177 : BitVec 32 := Scalar.addi v176 c0_i32_94
  let c64_i32_95 : BitVec 32 := 64#32
  let v178 : BitVec 32 := Scalar.muli v177 c64_i32_95
  v178
def k0_mult2 (k0_t1 : Fin k0_t1_loop.trips) : BitVec 32 :=
  let c0_i32_91 : BitVec 32 := 0#32
  let c1_i32_92 : BitVec 32 := 1#32
  let arg28 : BitVec 32 := Scf.iv c0_i32_91 c1_i32_92 k0_t1
  let c2_i32_96 : BitVec 32 := 2#32
  let v180 : BitVec 32 := Scalar.muli arg28 c2_i32_96
  let c1_i32_97 : BitVec 32 := 1#32
  let v181 : BitVec 32 := Scalar.addi v180 c1_i32_97
  let c64_i32_98 : BitVec 32 := 64#32
  let v182 : BitVec 32 := Scalar.muli v181 c64_i32_98
  v182
def k0_off1 (k0_t1 : Fin k0_t1_loop.trips) (c0_i32_94 : BitVec 32) : Fin 3 → Nat :=
  let c0_99 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v184 : Index := Scalar.indexCast v179
  let c0_100 : Index := 0#32
  ![0, v184.toNat, 0]
def k0_off2 (k0_t1 : Fin k0_t1_loop.trips) (c0_i32_94 : BitVec 32) : Fin 3 → Nat :=
  let c0_101 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v187 : Index := Scalar.indexCast v179
  let c128_102 : Index := 128#32
  ![0, v187.toNat, 128]
def k0_off3 (k0_t1 : Fin k0_t1_loop.trips) (c0_i32_94 : BitVec 32) : Fin 3 → Nat :=
  let c0_103 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v190 : Index := Scalar.indexCast v179
  let c256_104 : Index := 256#32
  ![0, v190.toNat, 256]
def k0_off4 (k0_t1 : Fin k0_t1_loop.trips) (c0_i32_94 : BitVec 32) : Fin 3 → Nat :=
  let c0_105 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v193 : Index := Scalar.indexCast v179
  let c384_106 : Index := 384#32
  ![0, v193.toNat, 384]
def k0_off5 (k0_t1 : Fin k0_t1_loop.trips) (c0_i32_94 : BitVec 32) : Fin 3 → Nat :=
  let c0_107 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v196 : Index := Scalar.indexCast v179
  let c512_108 : Index := 512#32
  ![0, v196.toNat, 512]
def k0_off6 (k0_t1 : Fin k0_t1_loop.trips) (c0_i32_94 : BitVec 32) : Fin 3 → Nat :=
  let c0_109 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v199 : Index := Scalar.indexCast v179
  let c640_110 : Index := 640#32
  ![0, v199.toNat, 640]
def k0_off7 (k0_t1 : Fin k0_t1_loop.trips) (c0_i32_94 : BitVec 32) : Fin 3 → Nat :=
  let c0_111 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v202 : Index := Scalar.indexCast v179
  let c768_112 : Index := 768#32
  ![0, v202.toNat, 768]
def k0_off8 (k0_t1 : Fin k0_t1_loop.trips) (c0_i32_94 : BitVec 32) : Fin 3 → Nat :=
  let c0_113 : Index := 0#32
  let c0_i32_91 : BitVec 32 := 0#32
  let c1_i32_92 : BitVec 32 := 1#32
  let arg28 : BitVec 32 := Scf.iv c0_i32_91 c1_i32_92 k0_t1
  let c2_i32 : BitVec 32 := 2#32
  let v176 : BitVec 32 := Scalar.muli arg28 c2_i32
  let v177 : BitVec 32 := Scalar.addi v176 c0_i32_94
  let c64_i32_95 : BitVec 32 := 64#32
  let v178 : BitVec 32 := Scalar.muli v177 c64_i32_95
  let v179 : BitVec 32 := v178
  let v205 : Index := Scalar.indexCast v179
  let c896_114 : Index := 896#32
  ![0, v205.toNat, 896]
def k0_off9 (k0_t1 : Fin k0_t1_loop.trips) (c0_i32_324 : BitVec 32) : Fin 4 → Nat :=
  let c0_325 : Index := 0#32
  let c0_i32_91 : BitVec 32 := 0#32
  let c1_i32_92 : BitVec 32 := 1#32
  let arg28 : BitVec 32 := Scf.iv c0_i32_91 c1_i32_92 k0_t1
  let c2_i32_323 : BitVec 32 := 2#32
  let v584 : BitVec 32 := Scalar.muli arg28 c2_i32_323
  let v585 : BitVec 32 := Scalar.addi v584 c0_i32_324
  let v586 : Index := Scalar.indexCast v585
  let c0_326 : Index := 0#32
  let c0_327 : Index := 0#32
  ![0, v586.toNat, 0, 0]
def k0_off10 (k0_t1 : Fin k0_t1_loop.trips) (c0_i32_329 : BitVec 32) : Fin 4 → Nat :=
  let c0_330 : Index := 0#32
  let c0_i32_91 : BitVec 32 := 0#32
  let c1_i32_92 : BitVec 32 := 1#32
  let arg28 : BitVec 32 := Scf.iv c0_i32_91 c1_i32_92 k0_t1
  let c2_i32_328 : BitVec 32 := 2#32
  let v591 : BitVec 32 := Scalar.muli arg28 c2_i32_328
  let v592 : BitVec 32 := Scalar.addi v591 c0_i32_329
  let v593 : Index := Scalar.indexCast v592
  let c0_331 : Index := 0#32
  let c128_332 : Index := 128#32
  ![0, v593.toNat, 0, 128]
def k0_off11 (k0_t1 : Fin k0_t1_loop.trips) (c0_i32_334 : BitVec 32) : Fin 4 → Nat :=
  let c0_335 : Index := 0#32
  let c0_i32_91 : BitVec 32 := 0#32
  let c1_i32_92 : BitVec 32 := 1#32
  let arg28 : BitVec 32 := Scf.iv c0_i32_91 c1_i32_92 k0_t1
  let c2_i32_333 : BitVec 32 := 2#32
  let v598 : BitVec 32 := Scalar.muli arg28 c2_i32_333
  let v599 : BitVec 32 := Scalar.addi v598 c0_i32_334
  let v600 : Index := Scalar.indexCast v599
  let c0_336 : Index := 0#32
  let c256_337 : Index := 256#32
  ![0, v600.toNat, 0, 256]
def k0_off12 (k0_t1 : Fin k0_t1_loop.trips) (c0_i32_339 : BitVec 32) : Fin 4 → Nat :=
  let c0_340 : Index := 0#32
  let c0_i32_91 : BitVec 32 := 0#32
  let c1_i32_92 : BitVec 32 := 1#32
  let arg28 : BitVec 32 := Scf.iv c0_i32_91 c1_i32_92 k0_t1
  let c2_i32_338 : BitVec 32 := 2#32
  let v605 : BitVec 32 := Scalar.muli arg28 c2_i32_338
  let v606 : BitVec 32 := Scalar.addi v605 c0_i32_339
  let v607 : Index := Scalar.indexCast v606
  let c0_341 : Index := 0#32
  let c384_342 : Index := 384#32
  ![0, v607.toNat, 0, 384]
def k0_off13 (k0_t1 : Fin k0_t1_loop.trips) (c0_i32_344 : BitVec 32) : Fin 4 → Nat :=
  let c0_345 : Index := 0#32
  let c0_i32_91 : BitVec 32 := 0#32
  let c1_i32_92 : BitVec 32 := 1#32
  let arg28 : BitVec 32 := Scf.iv c0_i32_91 c1_i32_92 k0_t1
  let c2_i32_343 : BitVec 32 := 2#32
  let v612 : BitVec 32 := Scalar.muli arg28 c2_i32_343
  let v613 : BitVec 32 := Scalar.addi v612 c0_i32_344
  let v614 : Index := Scalar.indexCast v613
  let c0_346 : Index := 0#32
  let c512_347 : Index := 512#32
  ![0, v614.toNat, 0, 512]
def k0_off14 (k0_t1 : Fin k0_t1_loop.trips) (c0_i32_349 : BitVec 32) : Fin 4 → Nat :=
  let c0_350 : Index := 0#32
  let c0_i32_91 : BitVec 32 := 0#32
  let c1_i32_92 : BitVec 32 := 1#32
  let arg28 : BitVec 32 := Scf.iv c0_i32_91 c1_i32_92 k0_t1
  let c2_i32_348 : BitVec 32 := 2#32
  let v619 : BitVec 32 := Scalar.muli arg28 c2_i32_348
  let v620 : BitVec 32 := Scalar.addi v619 c0_i32_349
  let v621 : Index := Scalar.indexCast v620
  let c0_351 : Index := 0#32
  let c640_352 : Index := 640#32
  ![0, v621.toNat, 0, 640]
def k0_off15 (k0_t1 : Fin k0_t1_loop.trips) (c0_i32_354 : BitVec 32) : Fin 4 → Nat :=
  let c0_355 : Index := 0#32
  let c0_i32_91 : BitVec 32 := 0#32
  let c1_i32_92 : BitVec 32 := 1#32
  let arg28 : BitVec 32 := Scf.iv c0_i32_91 c1_i32_92 k0_t1
  let c2_i32_353 : BitVec 32 := 2#32
  let v626 : BitVec 32 := Scalar.muli arg28 c2_i32_353
  let v627 : BitVec 32 := Scalar.addi v626 c0_i32_354
  let v628 : Index := Scalar.indexCast v627
  let c0_356 : Index := 0#32
  let c768_357 : Index := 768#32
  ![0, v628.toNat, 0, 768]
def k0_off16 (k0_t1 : Fin k0_t1_loop.trips) (c0_i32_359 : BitVec 32) : Fin 4 → Nat :=
  let c0_360 : Index := 0#32
  let c0_i32_91 : BitVec 32 := 0#32
  let c1_i32_92 : BitVec 32 := 1#32
  let arg28 : BitVec 32 := Scf.iv c0_i32_91 c1_i32_92 k0_t1
  let c2_i32_358 : BitVec 32 := 2#32
  let v633 : BitVec 32 := Scalar.muli arg28 c2_i32_358
  let v634 : BitVec 32 := Scalar.addi v633 c0_i32_359
  let v635 : Index := Scalar.indexCast v634
  let c0_361 : Index := 0#32
  let c896_362 : Index := 896#32
  ![0, v635.toNat, 0, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x64x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x176x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x176x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x176x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x5632 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S176x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S176x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S176x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S176x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Kernel9.lean ====
abbrev S4x2048x5632 : Shape := ⟨3, ![4, 2048, 5632]⟩
abbrev S2048x5632 : Shape := ⟨2, ![2048, 5632]⟩
abbrev S1x256x5632 : Shape := ⟨3, ![1, 256, 5632]⟩
abbrev S256x5632 : Shape := ⟨2, ![256, 5632]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x5632, .f32⟩
  | .hbm, ⟨1, _⟩ => ⟨S2048x5632, .bf16⟩
  | .local _ .vmem, ⟨0, _⟩ => ⟨S1x256x5632, .f32⟩
  | .local _ .vmem, ⟨1, _⟩ => ⟨S1x256x5632, .f32⟩
  | .local _ .vmem, ⟨2, _⟩ => ⟨S256x5632, .bf16⟩
  | .local _ .vmem, ⟨3, _⟩ => ⟨S256x5632, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel9Ideal.lean ====
abbrev S4x2048x5632 : Shape := ⟨3, ![4, 2048, 5632]⟩
abbrev S2048x5632 : Shape := ⟨2, ![2048, 5632]⟩
abbrev S1x256x5632 : Shape := ⟨3, ![1, 256, 5632]⟩
abbrev S256x5632 : Shape := ⟨2, ![256, 5632]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x5632, .f32⟩
  | .hbm, ⟨1, _⟩ => ⟨S2048x5632, .bf16⟩
  | .local _ .vmem, ⟨0, _⟩ => ⟨S1x256x5632, .f32⟩
  | .local _ .vmem, ⟨1, _⟩ => ⟨S1x256x5632, .f32⟩
  | .local _ .vmem, ⟨2, _⟩ => ⟨S256x5632, .bf16⟩
  | .local _ .vmem, ⟨3, _⟩ => ⟨S256x5632, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S4x2048x5632 : Shape := ⟨3, ![4, 2048, 5632]⟩
abbrev S1x2048x5632 : Shape := ⟨3, ![1, 2048, 5632]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S1x2048x5632, .f32⟩
  | .hbm, ⟨2, _⟩ => ⟨S2048x5632, .f32⟩
  | .hbm, ⟨3, _⟩ => ⟨S2048x5632, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel10.lean ====
abbrev S4x5632x2048 : Shape := ⟨3, ![4, 5632, 2048]⟩
abbrev S5632x2048 : Shape := ⟨2, ![5632, 2048]⟩
abbrev S1x704x2048 : Shape := ⟨3, ![1, 704, 2048]⟩
abbrev S704x2048 : Shape := ⟨2, ![704, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x5632x2048, .f32⟩
  | .hbm, ⟨1, _⟩ => ⟨S5632x2048, .bf16⟩
  | .local _ .vmem, ⟨0, _⟩ => ⟨S1x704x2048, .f32⟩
  | .local _ .vmem, ⟨1, _⟩ => ⟨S1x704x2048, .f32⟩
  | .local _ .vmem, ⟨2, _⟩ => ⟨S704x2048, .bf16⟩
  | .local _ .vmem, ⟨3, _⟩ => ⟨S704x2048, .bf16⟩
  | _, _ => ⟨S4x5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x704x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x5632x2048, .f32⟩
  | .hbm, ⟨1, _⟩ => ⟨S1x5632x2048, .f32⟩
  | .hbm, ⟨2, _⟩ => ⟨S5632x2048, .f32⟩
  | .hbm, ⟨3, _⟩ => ⟨S5632x2048, .bf16⟩
  | _, _ => ⟨S4x5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.PrepIdealRun.lean ====
/- The recurrence preparation call's body over the idealized program: one run of it at a grid point keeps its inputs' buffers as
   they were, and leaves its outputs' buffers at some contents. -/
module

public import proofs.«01_k».proof.Proof.Gen.Kernel7Ideal.Frame.Runs

@[expose] public section

set_option maxRecDepth 16384

noncomputable section

namespace Cert.Kernel7Ideal.Prep

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers while the body runs: the inputs' at their contents, the others at some contents. -/
abbrev held (c : Dev nD)
    (arg2 : Memref sig .tc .vmem S1x512x1024 .f32) (arg3 : Memref sig .tc .vmem S1x512x1024 .f32)
    (arg4 : Memref sig .tc .vmem S1x512x1024 .f32) (arg5 : Memref sig .tc .vmem S1x512x256 .f32)
    (arg6 : Memref sig .tc .vmem S1x8x1024 .f32) (arg7 : Memref sig .tc .vmem S1x8x1024 .f32)
    (arg8 : Memref sig .tc .vmem S1x8x1024 .f32) (arg9 : Memref sig .tc .vmem S1x8x256 .f32)
    (arg10 : Memref sig .tc .vmem S1x1024 .f32) (arg11 : Memref sig .tc .vmem S1x1024 .f32)
    (arg12 : Memref sig .tc .vmem S1x1024 .f32) (arg13 : Memref sig .tc .vmem S1x256 .f32)
    (arg14 : Memref sig .tc .vmem S1x1024 .f32) (arg15 : Memref sig .tc .vmem S1x1024 .f32)
    (arg16 : Memref sig .tc .vmem S1x1024 .f32) (arg17 : Memref sig .tc .vmem S1x1024 .f32)
    (arg18 : Memref sig .tc .vmem S1x1024 .f32) (arg19 : Memref sig .tc .vmem S128x1024 .bf16)
    (arg20 : Memref sig .tc .vmem S128x1024 .bf16) (arg21 : Memref sig .tc .vmem S128x1024 .bf16)
    (arg22 : Memref sig .tc .vmem S512x512 .bf16) (arg23 : Memref sig .tc .vmem S128x128 .bf16)
    (arg24 : Memref sig .tc .vmem S1x512x1024 .bf16) (arg25 : Memref sig .tc .vmem S1x512x1024 .bf16)
    (arg26 : Memref sig .tc .vmem S1x512x1024 .bf16) (arg27 : Memref sig .tc .vmem S1x512x1024 .bf16)
    (arg28 : Memref sig .tc .vmem S1x512x1024 .bf16) (arg29 : Memref sig .tc .vmem S1x512x1024 .bf16)
    (arg30 : Memref sig .tc .vmem S1x512x1024 .bf16) (arg31 : Memref sig .tc .vmem S1x8x8x1024 .f32)
    (arg32 : Memref sig .tc .vmem S1x512x1024 .f32) (arg33 : Memref sig .tc .vmem S1x512x1024 .f32)
    (x0 : Vec F S1x512x1024 .f32) (x1 : Vec F S1x512x1024 .f32) (x2 : Vec F S1x512x1024 .f32)
    (x3 : Vec F S1x512x256 .f32) (x4 : Vec F S1x8x1024 .f32) (x5 : Vec F S1x8x1024 .f32)
    (x6 : Vec F S1x8x1024 .f32) (x7 : Vec F S1x8x256 .f32) (x8 : Vec F S1x1024 .f32)
    (x9 : Vec F S1x1024 .f32) (x10 : Vec F S1x1024 .f32) (x11 : Vec F S1x256 .f32)
    (x12 : Vec F S1x1024 .f32) (x13 : Vec F S1x1024 .f32) (x14 : Vec F S1x1024 .f32)
    (x15 : Vec F S1x1024 .f32) (x16 : Vec F S1x1024 .f32) (x17 : Vec F S128x1024 .bf16)
    (x18 : Vec F S128x1024 .bf16) (x19 : Vec F S128x1024 .bf16) (x20 : Vec F S512x512 .bf16)
    (x21 : Vec F S128x128 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare x8 ∗ owns (c : Thread nD τ) arg11 fullShare x9
    ∗ owns (c : Thread nD τ) arg12 fullShare x10 ∗ owns (c : Thread nD τ) arg13 fullShare x11
    ∗ owns (c : Thread nD τ) arg14 fullShare x12 ∗ owns (c : Thread nD τ) arg15 fullShare x13
    ∗ owns (c : Thread nD τ) arg16 fullShare x14 ∗ owns (c : Thread nD τ) arg17 fullShare x15
    ∗ owns (c : Thread nD τ) arg18 fullShare x16 ∗ owns (c : Thread nD τ) arg19 fullShare x17
    ∗ owns (c : Thread nD τ) arg20 fullShare x18 ∗ owns (c : Thread nD τ) arg21 fullShare x19
    ∗ owns (c : Thread nD τ) arg22 fullShare x20 ∗ owns (c : Thread nD τ) arg23 fullShare x21
    ∗ (∃ d, owns (c : Thread nD τ) arg24 fullShare d) ∗ (∃ d, owns (c : Thread nD τ) arg25 fullShare d)
    ∗ (∃ d, owns (c : Thread nD τ) arg26 fullShare d) ∗ (∃ d, owns (c : Thread nD τ) arg27 fullShare d)
    ∗ (∃ d, owns (c : Thread nD τ) arg28 fullShare d) ∗ (∃ d, owns (c : Thread nD τ) arg29 fullShare d)
    ∗ (∃ d, owns (c : Thread nD τ) arg30 fullShare d) ∗ (∃ d, owns (c : Thread nD τ) arg31 fullShare d)
    ∗ (∃ d, owns (c : Thread nD τ) arg32 fullShare d) ∗ (∃ d, owns (c : Thread nD τ) arg33 fullShare d))

set_option maxHeartbeats 8000000 in
/-- The body's run on whole buffers. It has neither a conditional nor a loop. -/
theorem run (c : Dev nD) (i : grid0.Coords)
    (arg2 : Memref sig .tc .vmem S1x512x1024 .f32) (harg2 : arg2.IsWhole)
    (arg3 : Memref sig .tc .vmem S1x512x1024 .f32) (harg3 : arg3.IsWhole)
    (arg4 : Memref sig .tc .vmem S1x512x1024 .f32) (harg4 : arg4.IsWhole)
    (arg5 : Memref sig .tc .vmem S1x512x256 .f32) (harg5 : arg5.IsWhole)
    (arg6 : Memref sig .tc .vmem S1x8x1024 .f32) (harg6 : arg6.IsWhole)
    (arg7 : Memref sig .tc .vmem S1x8x1024 .f32) (harg7 : arg7.IsWhole)
    (arg8 : Memref sig .tc .vmem S1x8x1024 .f32) (harg8 : arg8.IsWhole)
    (arg9 : Memref sig .tc .vmem S1x8x256 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S1x1024 .f32) (harg12 : arg12.IsWhole)
    (arg13 : Memref sig .tc .vmem S1x256 .f32) (harg13 : arg13.IsWhole)
    (arg14 : Memref sig .tc .vmem S1x1024 .f32) (harg14 : arg14.IsWhole)
    (arg15 : Memref sig .tc .vmem S1x1024 .f32) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S1x1024 .f32) (harg18 : arg18.IsWhole)
    (arg19 : Memref sig .tc .vmem S128x1024 .bf16) (harg19 : arg19.IsWhole)
    (arg20 : Memref sig .tc .vmem S128x1024 .bf16) (harg20 : arg20.IsWhole)
    (arg21 : Memref sig .tc .vmem S128x1024 .bf16) (harg21 : arg21.IsWhole)
    (arg22 : Memref sig .tc .vmem S512x512 .bf16) (harg22 : arg22.IsWhole)
    (arg23 : Memref sig .tc .vmem S128x128 .bf16) (harg23 : arg23.IsWhole)
    (arg24 : Memref sig .tc .vmem S1x512x1024 .bf16) (harg24 : arg24.IsWhole)
    (arg25 : Memref sig .tc .vmem S1x512x1024 .bf16) (harg25 : arg25.IsWhole)
    (arg26 : Memref sig .tc .vmem S1x512x1024 .bf16) (harg26 : arg26.IsWhole)
    (arg27 : Memref sig .tc .vmem S1x512x1024 .bf16) (harg27 : arg27.IsWhole)
    (arg28 : Memref sig .tc .vmem S1x512x1024 .bf16) (harg28 : arg28.IsWhole)
    (arg29 : Memref sig .tc .vmem S1x512x1024 .bf16) (harg29 : arg29.IsWhole)
    (arg30 : Memref sig .tc .vmem S1x512x1024 .bf16) (harg30 : arg30.IsWhole)
    (arg31 : Memref sig .tc .vmem S1x8x8x1024 .f32) (harg31 : arg31.IsWhole)
    (arg32 : Memref sig .tc .vmem S1x512x1024 .f32) (harg32 : arg32.IsWhole)
    (arg33 : Memref sig .tc .vmem S1x512x1024 .f32) (harg33 : arg33.IsWhole)
    (x0 : Vec F S1x512x1024 .f32) (x1 : Vec F S1x512x1024 .f32) (x2 : Vec F S1x512x1024 .f32)
    (x3 : Vec F S1x512x256 .f32) (x4 : Vec F S1x8x1024 .f32) (x5 : Vec F S1x8x1024 .f32)
    (x6 : Vec F S1x8x1024 .f32) (x7 : Vec F S1x8x256 .f32) (x8 : Vec F S1x1024 .f32)
    (x9 : Vec F S1x1024 .f32) (x10 : Vec F S1x1024 .f32) (x11 : Vec F S1x256 .f32)
    (x12 : Vec F S1x1024 .f32) (x13 : Vec F S1x1024 .f32) (x14 : Vec F S1x1024 .f32)
    (x15 : Vec F S1x1024 .f32) (x16 : Vec F S1x1024 .f32) (x17 : Vec F S128x1024 .bf16)
    (x18 : Vec F S128x1024 .bf16) (x19 : Vec F S128x1024 .bf16) (x20 : Vec F S512x512 .bf16)
    (x21 : Vec F S128x128 .bf16) (E : Set ℕ) (K : PUnit → sProp 𝕄) :
    iprop(held c arg2 arg3 arg4 arg5 arg6 arg7 arg8 arg9 arg10 arg11 arg12 arg13 arg14 arg15 arg16 arg17
          arg18 arg19 arg20 arg21 arg22 arg23 arg24 arg25 arg26 arg27 arg28 arg29 arg30 arg31 arg32 arg33
          x0 x1 x2 x3 x4 x5 x6 x7 x8 x9 x10 x11 x12 x13 x14 x15
          x16 x17 x18 x19 x20 x21
        ∗ (held c arg2 arg3 arg4 arg5 arg6 arg7 arg8 arg9 arg10 arg11 arg12 arg13 arg14 arg15 arg16 arg17
          arg18 arg19 arg20 arg21 arg22 arg23 arg24 arg25 arg26 arg27 arg28 arg29 arg30 arg31 arg32 arg33
          x0 x1 x2 x3 x4 x5 x6 x7 x8 x9 x10 x11 x12 x13 x14 x15
          x16 x17 x18 x19 x20 x21 -∗ K ⟨⟩))
      ⊢ wp frame (wpE (defs₀ (F := F)) Variants.none c none) E
        (cc0_rwkv_prep i
          arg2 harg2 arg3 harg3 arg4 harg4 arg5 harg5 arg6 harg6 arg7 harg7 arg8 harg8
          arg9 harg9 arg10 harg10 arg11 harg11 arg12 harg12 arg13 harg13 arg14 harg14 arg15 harg15
          arg16 harg16 arg17 harg17 arg18 harg18 arg19 harg19 arg20 harg20 arg21 harg21 arg22 harg22
          arg23 harg23 arg24 harg24 arg25 harg25 arg26 harg26 arg27 harg27 arg28 harg28 arg29 harg29
          arg30 harg30 arg31 harg31 arg32 harg32 arg33 harg33) K := by
  simp only [cc0_rwkv_prep_eq_skeleton]; unfold cc0_rwkv_prep_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩,
    ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16; obtain rfl := harg19.eq_unread hf17
  obtain rfl := harg20.eq_unread hf18; obtain rfl := harg21.eq_unread hf19; obtain rfl := harg22.eq_unread hf20
  obtain rfl := harg23.eq_unread hf21
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr; · ipureintro; exact harg22.read_unread _
    iexact H20
  isplitl [H21]
  · iexists _; isplitr; · ipureintro; exact harg23.read_unread _
    iexact H21
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  iexists _, _; isplitr; swap; · iexact H31
  ipureintro; rfl

end Cert.Kernel7Ideal.Prep

end
-- ==== Proof.PrepIdealFrame.lean ====
/- The frame of the recurrence preparation call over the idealized program: every run ends, leaves the argument arrays unchanged and
   every semaphore at zero. What the body leaves in its outputs is not named. -/
module

public import proofs.«01_k».proof.Proof.PrepIdealRun
public import Idealize.ShloMosaic.Lib.Claim

@[expose] public section

set_option maxRecDepth 16384

noncomputable section

namespace Cert.Kernel7Ideal.Prep

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents nothing is said. -/
def forgotten : Fin 32 → Bool := fun w => decide (22 ≤ w.val)

/-- The call's proof data: the arrays as launched, each input's buffer at its block after the body, the outputs
    unnamed, and nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨31, h⟩ => Pipeline.Dat.unnamed (cfg := cfg0) ⟨31, h⟩ t
    | ⟨_ + 32, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! Each input's buffer holds its block at every point. -/

theorem before_0 (c : Dev nD) (t : Fin cfg0.N) (d) : (dats m 0 c).before 0 t d = X0_0 m c t :=
  before0_0_of m (dats m 0 c) (A_eq m c 0) (fun _ => rfl) t d
theorem before_1 (c : Dev nD) (t : Fin cfg0.N) (d) : (dats m 0 c).before 1 t d = X0_1 m c t :=
  before0_1_of m (dats m 0 c) (A_eq m c 1) (fun _ => rfl) t d
theorem before_2 (c : Dev nD) (t : Fin cfg0.N) (d) : (dats m 0 c).before 2 t d = X0_2 m c t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = X0_4 m c t :=
  before0_4_of m (dats m 0 c) (A_eq m c 4) (fun _ => rfl) t d
theorem before_5 (c : Dev nD) (t : Fin cfg0.N) (d) : (dats m 0 c).before 5 t d = X0_5 m c t :=
  before0_5_of m (dats m 0 c) (A_eq m c 5) (fun _ => rfl) t d
theorem before_6 (c : Dev nD) (t : Fin cfg0.N) (d) : (dats m 0 c).before 6 t d = X0_6 m c t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d
theorem before_15 (c : Dev nD) (t : Fin cfg0.N) (d) : (dats m 0 c).before 15 t d = iblk m c 15 t :=
  before0_15_of m (dats m 0 c) (A_eq m c 15) (fun _ => rfl) t d
theorem before_16 (c : Dev nD) (t : Fin cfg0.N) (d) : (dats m 0 c).before 16 t d = iblk m c 16 t :=
  before0_16_of m (dats m 0 c) (A_eq m c 16) (fun _ => rfl) t d
theorem before_17 (c : Dev nD) (t : Fin cfg0.N) (d) : (dats m 0 c).before 17 t d = iblk m c 17 t :=
  before0_17_of m (dats m 0 c) (A_eq m c 17) (fun _ => rfl) t d
theorem before_18 (c : Dev nD) (t : Fin cfg0.N) (d) : (dats m 0 c).before 18 t d = iblk m c 18 t :=
  before0_18_of m (dats m 0 c) (A_eq m c 18) (fun _ => rfl) t d
theorem before_19 (c : Dev nD) (t : Fin cfg0.N) (d) : (dats m 0 c).before 19 t d = iblk m c 19 t :=
  before0_19_of m (dats m 0 c) (A_eq m c 19) (fun _ => rfl) t d
theorem before_20 (c : Dev nD) (t : Fin cfg0.N) (d) : (dats m 0 c).before 20 t d = iblk m c 20 t :=
  before0_20_of m (dats m 0 c) (A_eq m c 20) (fun _ => rfl) t d
theorem before_21 (c : Dev nD) (t : Fin cfg0.N) (d) : (dats m 0 c).before 21 t d = iblk m c 21 t :=
  before0_21_of m (dats m 0 c) (A_eq m c 21) (fun _ => rfl) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare d) ∗ (∃ d, owns (c : Thread nD τ) (st0_23 t) fullShare d)
    ∗ (∃ d, owns (c : Thread nD τ) (st0_24 t) fullShare d) ∗ (∃ d, owns (c : Thread nD τ) (st0_25 t) fullShare d)
    ∗ (∃ d, owns (c : Thread nD τ) (st0_26 t) fullShare d) ∗ (∃ d, owns (c : Thread nD τ) (st0_27 t) fullShare d)
    ∗ (∃ d, owns (c : Thread nD τ) (st0_28 t) fullShare d) ∗ (∃ d, owns (c : Thread nD τ) (st0_29 t) fullShare d)
    ∗ (∃ d, owns (c : Thread nD τ) (st0_30 t) fullShare d) ∗ (∃ d, owns (c : Thread nD τ) (st0_31 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ (∃ d, owns (c : Thread nD τ) (st0_22 t) fullShare d) ∗ (∃ d, owns (c : Thread nD τ) (st0_23 t) fullShare d)
    ∗ (∃ d, owns (c : Thread nD τ) (st0_24 t) fullShare d) ∗ (∃ d, owns (c : Thread nD τ) (st0_25 t) fullShare d)
    ∗ (∃ d, owns (c : Thread nD τ) (st0_26 t) fullShare d) ∗ (∃ d, owns (c : Thread nD τ) (st0_27 t) fullShare d)
    ∗ (∃ d, owns (c : Thread nD τ) (st0_28 t) fullShare d) ∗ (∃ d, owns (c : Thread nD τ) (st0_29 t) fullShare d)
    ∗ (∃ d, owns (c : Thread nD τ) (st0_30 t) fullShare d) ∗ (∃ d, owns (c : Thread nD τ) (st0_31 t) fullShare d))

set_option maxHeartbeats 8000000 in
/-- The body at a point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9,
    before_10, before_11, before_12, before_13, before_14, before_15, before_16, before_17, before_18, before_19,
    before_20, before_21]
  rw [show (dats m 0 c).owesAt () t.succ = (dats m 0 c).owesAt () t.castSucc from rfl,
    show (dats m 0 c).Φ t.succ = (dats m 0 c).Φ t.castSucc from rfl]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, H22, H23, H24, H25, H26, H27, H28, H29,
    H30, H31⟩
  iapply (run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (X0_0 m c t) (X0_1 m c t) (X0_2 m c t) (iblk m c 3 t) (X0_4 m c t) (X0_5 m c t) (X0_6 m c t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) Set.univ _)
  isplitl [H0 H1 H2 H3 H4 H5 H6 H7 H8 H9 H10 H11 H12 H13 H14 H15 H16 H17 H18 H19 H20 H21 H22 H23 H24 H25 H26 H27 H28 H29 H30 H31]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iintro ⟨H0, H1, H2, H3, H4, H5, H6, H7, H8, H9, H10, H11, H12, H13, H14, H15, H16, H17, H18, H19, H20, H21, H22, H23, H24, H25, H26, H27, H28, H29, H30, H31⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at a point is the body there. -/
theorem body_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) :
    BodyObligation (dats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- Every run ends with the inputs' arrays as launched and the semaphores at zero. -/
theorem run_main : θ_run defs (onTc (τ := τ) (main (F := F))) (s₀ m ρ)
    (fun r => (Pipeline.RDat.FramePost (cfgs 0) (fun c => (dats m 0 c).toRForget forgotten) (V m)) r
      ∧ r.2.sem = fun _ => 0) :=
  Pipeline.θ_run_frame_track_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(Pipeline.RDat.FramePost.arr_in h.1 c 7 rfl).trans ((A_eq m c 7).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩,
      h.2⟩) (run_main m ρ)

end Cert.Kernel7Ideal.Prep

end
-- ==== Proof.ScanIdealRun.lean ====
/- The recurrence scan call's body over the idealized program: one run of it at a grid point keeps its inputs' buffers as
   they were, and leaves its outputs' and its scratch buffers at some contents. -/
module

public import proofs.«01_k».proof.Proof.Gen.Kernel8Ideal.Frame.Runs

@[expose] public section

set_option maxRecDepth 16384

noncomputable section

namespace Cert.Kernel8Ideal.Scan

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers while the body runs: the inputs' at their contents, the others at some contents. -/
abbrev held (c : Dev nD)
    (arg2 : Memref sig .tc .vmem S1x512x1024 .bf16) (arg3 : Memref sig .tc .vmem S1x512x1024 .bf16)
    (arg4 : Memref sig .tc .vmem S1x512x1024 .bf16) (arg5 : Memref sig .tc .vmem S1x512x1024 .bf16)
    (arg6 : Memref sig .tc .vmem S1x512x1024 .bf16) (arg7 : Memref sig .tc .vmem S1x512x1024 .bf16)
    (arg8 : Memref sig .tc .vmem S1x512x1024 .bf16) (arg9 : Memref sig .tc .vmem S1x8x8x1024 .f32)
    (arg10 : Memref sig .tc .vmem S1x512x1024 .f32) (arg11 : Memref sig .tc .vmem S1x512x1024 .f32)
    (arg12 : Memref sig .tc .vmem S1x1024 .f32) (arg13 : Memref sig .tc .vmem S1x1024 .f32)
    (arg14 : Memref sig .tc .vmem S1x64x5632 .f32) (arg15 : Memref sig .tc .vmem S1x64x5632 .f32)
    (arg16 : Memref sig .tc .vmem S1x176x2048 .f32) (arg17 : Memref sig .tc .vmem S1x176x2048 .f32)
    (arg18 : Memref sig .tc .vmem S1x176x2048 .f32) (arg19 : Memref sig .tc .vmem S1x176x2048 .f32)
    (arg20 : Memref sig .tc .vmem S1x512x1024 .bf16) (arg21 : Memref sig .tc .vmem S64x5632 .bf16)
    (arg22 : Memref sig .tc .vmem S64x5632 .bf16) (arg23 : Memref sig .tc .vmem S176x2048 .bf16)
    (arg24 : Memref sig .tc .vmem S176x2048 .bf16) (arg25 : Memref sig .tc .vmem S176x2048 .bf16)
    (arg26 : Memref sig .tc .vmem S176x2048 .bf16) (arg27 : Memref sig .tc .vmem S8x128x128 .f32)
    (x0 : Vec F S1x512x1024 .bf16) (x1 : Vec F S1x512x1024 .bf16) (x2 : Vec F S1x512x1024 .bf16)
    (x3 : Vec F S1x512x1024 .bf16) (x4 : Vec F S1x512x1024 .bf16) (x5 : Vec F S1x512x1024 .bf16)
    (x6 : Vec F S1x512x1024 .bf16) (x7 : Vec F S1x8x8x1024 .f32) (x8 : Vec F S1x512x1024 .f32)
    (x9 : Vec F S1x512x1024 .f32) (x10 : Vec F S1x1024 .f32) (x11 : Vec F S1x1024 .f32)
    (x12 : Vec F S1x64x5632 .f32) (x13 : Vec F S1x64x5632 .f32) (x14 : Vec F S1x176x2048 .f32)
    (x15 : Vec F S1x176x2048 .f32) (x16 : Vec F S1x176x2048 .f32) (x17 : Vec F S1x176x2048 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare x8 ∗ owns (c : Thread nD τ) arg11 fullShare x9
    ∗ owns (c : Thread nD τ) arg12 fullShare x10 ∗ owns (c : Thread nD τ) arg13 fullShare x11
    ∗ owns (c : Thread nD τ) arg14 fullShare x12 ∗ owns (c : Thread nD τ) arg15 fullShare x13
    ∗ owns (c : Thread nD τ) arg16 fullShare x14 ∗ owns (c : Thread nD τ) arg17 fullShare x15
    ∗ owns (c : Thread nD τ) arg18 fullShare x16 ∗ owns (c : Thread nD τ) arg19 fullShare x17
    ∗ (∃ d, owns (c : Thread nD τ) arg20 fullShare d) ∗ (∃ d, owns (c : Thread nD τ) arg21 fullShare d)
    ∗ (∃ d, owns (c : Thread nD τ) arg22 fullShare d) ∗ (∃ d, owns (c : Thread nD τ) arg23 fullShare d)
    ∗ (∃ d, owns (c : Thread nD τ) arg24 fullShare d) ∗ (∃ d, owns (c : Thread nD τ) arg25 fullShare d)
    ∗ (∃ d, owns (c : Thread nD τ) arg26 fullShare d) ∗ (∃ d, owns (c : Thread nD τ) arg27 fullShare d))

set_option maxHeartbeats 8000000 in
/-- The body's run on whole buffers. The one conditional (the clearing of the carried states at a sequence's first block) is
    decided either way; the counted loop goes by its generated invariant. -/
theorem run (c : Dev nD) (i : grid0.Coords)
    (arg2 : Memref sig .tc .vmem S1x512x1024 .bf16) (harg2 : arg2.IsWhole)
    (arg3 : Memref sig .tc .vmem S1x512x1024 .bf16) (harg3 : arg3.IsWhole)
    (arg4 : Memref sig .tc .vmem S1x512x1024 .bf16) (harg4 : arg4.IsWhole)
    (arg5 : Memref sig .tc .vmem S1x512x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (arg9 : Memref sig .tc .vmem S1x8x8x1024 .f32) (harg9 : arg9.IsWhole)
    (arg10 : Memref sig .tc .vmem S1x512x1024 .f32) (harg10 : arg10.IsWhole)
    (arg11 : Memref sig .tc .vmem S1x512x1024 .f32) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x64x5632 .f32) (harg14 : arg14.IsWhole)
    (arg15 : Memref sig .tc .vmem S1x64x5632 .f32) (harg15 : arg15.IsWhole)
    (arg16 : Memref sig .tc .vmem S1x176x2048 .f32) (harg16 : arg16.IsWhole)
    (arg17 : Memref sig .tc .vmem S1x176x2048 .f32) (harg17 : arg17.IsWhole)
    (arg18 : Memref sig .tc .vmem S1x176x2048 .f32) (harg18 : arg18.IsWhole)
    (arg19 : Memref sig .tc .vmem S1x176x2048 .f32) (harg19 : arg19.IsWhole)
    (arg20 : Memref sig .tc .vmem S1x512x1024 .bf16) (harg20 : arg20.IsWhole)
    (arg21 : Memref sig .tc .vmem S64x5632 .bf16) (harg21 : arg21.IsWhole)
    (arg22 : Memref sig .tc .vmem S64x5632 .bf16) (harg22 : arg22.IsWhole)
    (arg23 : Memref sig .tc .vmem S176x2048 .bf16) (harg23 : arg23.IsWhole)
    (arg24 : Memref sig .tc .vmem S176x2048 .bf16) (harg24 : arg24.IsWhole)
    (arg25 : Memref sig .tc .vmem S176x2048 .bf16) (harg25 : arg25.IsWhole)
    (arg26 : Memref sig .tc .vmem S176x2048 .bf16) (harg26 : arg26.IsWhole)
    (arg27 : Memref sig .tc .vmem S8x128x128 .f32) (harg27 : arg27.IsWhole)
    (x0 : Vec F S1x512x1024 .bf16) (x1 : Vec F S1x512x1024 .bf16) (x2 : Vec F S1x512x1024 .bf16)
    (x3 : Vec F S1x512x1024 .bf16) (x4 : Vec F S1x512x1024 .bf16) (x5 : Vec F S1x512x1024 .bf16)
    (x6 : Vec F S1x512x1024 .bf16) (x7 : Vec F S1x8x8x1024 .f32) (x8 : Vec F S1x512x1024 .f32)
    (x9 : Vec F S1x512x1024 .f32) (x10 : Vec F S1x1024 .f32) (x11 : Vec F S1x1024 .f32)
    (x12 : Vec F S1x64x5632 .f32) (x13 : Vec F S1x64x5632 .f32) (x14 : Vec F S1x176x2048 .f32)
    (x15 : Vec F S1x176x2048 .f32) (x16 : Vec F S1x176x2048 .f32) (x17 : Vec F S1x176x2048 .f32) (E : Set ℕ) (K : PUnit → sProp 𝕄) :
    iprop(held c arg2 arg3 arg4 arg5 arg6 arg7 arg8 arg9 arg10 arg11 arg12 arg13 arg14 arg15 arg16 arg17
          arg18 arg19 arg20 arg21 arg22 arg23 arg24 arg25 arg26 arg27 x0 x1 x2 x3 x4 x5
          x6 x7 x8 x9 x10 x11 x12 x13 x14 x15 x16 x17
        ∗ (held c arg2 arg3 arg4 arg5 arg6 arg7 arg8 arg9 arg10 arg11 arg12 arg13 arg14 arg15 arg16 arg17
          arg18 arg19 arg20 arg21 arg22 arg23 arg24 arg25 arg26 arg27 x0 x1 x2 x3 x4 x5
          x6 x7 x8 x9 x10 x11 x12 x13 x14 x15 x16 x17 -∗ K ⟨⟩))
      ⊢ wp frame (wpE (defs₀ (F := F)) Variants.none c none) E
        (cc0_rwkv_scan i
          arg2 harg2 arg3 harg3 arg4 harg4 arg5 harg5 arg6 harg6 arg7 harg7 arg8 harg8
          arg9 harg9 arg10 harg10 arg11 harg11 arg12 harg12 arg13 harg13 arg14 harg14 arg15 harg15
          arg16 harg16 arg17 harg17 arg18 harg18 arg19 harg19 arg20 harg20 arg21 harg21 arg22 harg22
          arg23 harg23 arg24 harg24 arg25 harg25 arg26 harg26 arg27 harg27) K := by
  simp only [cc0_rwkv_scan_eq_skeleton]; unfold cc0_rwkv_scan_skel
  simp only [k0_part85_eq_skeleton, k0_part86_eq_skeleton, k0_part87_eq_skeleton, k0_part88_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩,
    ⟨%d24, %f24, -, H24⟩, ⟨%d25, %f25, -, H25⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16; obtain rfl := harg19.eq_unread hf17
  by_cases hc : cond0_0 i
  all_goals
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.Kernel8Ideal.Scan

end
-- ==== Proof.ScanIdealFrame.lean ====
/- The frame of the recurrence scan call over the idealized program: every run ends, leaves the argument arrays unchanged and
   every semaphore at zero. What the body leaves in its outputs is not named. -/
module

public import proofs.«01_k».proof.Proof.ScanIdealRun
public import Idealize.ShloMosaic.Lib.Claim

@[expose] public section

set_option maxRecDepth 16384

noncomputable section

namespace Cert.Kernel8Ideal.Scan

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents nothing is said. -/
def forgotten : Fin 25 → Bool := fun w => decide (18 ≤ w.val)

/-- The call's proof data: the arrays as launched, each input's buffer at its block after the body, the outputs
    unnamed, the scratch at anything between points, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! Each input's buffer holds its block at every point. -/

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d
theorem before_15 (c : Dev nD) (t : Fin cfg0.N) (d) : (dats m 0 c).before 15 t d = iblk m c 15 t :=
  before0_15_of m (dats m 0 c) (A_eq m c 15) (fun _ => rfl) t d
theorem before_16 (c : Dev nD) (t : Fin cfg0.N) (d) : (dats m 0 c).before 16 t d = iblk m c 16 t :=
  before0_16_of m (dats m 0 c) (A_eq m c 16) (fun _ => rfl) t d
theorem before_17 (c : Dev nD) (t : Fin cfg0.N) (d) : (dats m 0 c).before 17 t d = iblk m c 17 t :=
  before0_17_of m (dats m 0 c) (A_eq m c 17) (fun _ => rfl) t d

/-- The scratch and the generator register, the scratch buffer owned at some contents. -/
theorem scratch_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare d) ∗ (∃ d, owns (c : Thread nD τ) (st0_19 t) fullShare d)
    ∗ (∃ d, owns (c : Thread nD τ) (st0_20 t) fullShare d) ∗ (∃ d, owns (c : Thread nD τ) (st0_21 t) fullShare d)
    ∗ (∃ d, owns (c : Thread nD τ) (st0_22 t) fullShare d) ∗ (∃ d, owns (c : Thread nD τ) (st0_23 t) fullShare d)
    ∗ (∃ d, owns (c : Thread nD τ) (st0_24 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ (∃ d, owns (c : Thread nD τ) (st0_18 t) fullShare d) ∗ (∃ d, owns (c : Thread nD τ) (st0_19 t) fullShare d)
    ∗ (∃ d, owns (c : Thread nD τ) (st0_20 t) fullShare d) ∗ (∃ d, owns (c : Thread nD τ) (st0_21 t) fullShare d)
    ∗ (∃ d, owns (c : Thread nD τ) (st0_22 t) fullShare d) ∗ (∃ d, owns (c : Thread nD τ) (st0_23 t) fullShare d)
    ∗ (∃ d, owns (c : Thread nD τ) (st0_24 t) fullShare d))

set_option maxHeartbeats 8000000 in
/-- The body at a point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9,
    before_10, before_11, before_12, before_13, before_14, before_15, before_16, before_17]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl, scratch_eq]
  iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, H18, H19,
    H20, H21, H22, H23, H24⟩
  iapply (run c (grid0.coords t) _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) Set.univ _)
  isplitl [H0 H1 H2 H3 H4 H5 H6 H7 H8 H9 H10 H11 H12 H13 H14 H15 H16 H17 H18 H19 H20 H21 H22 H23 H24 S0]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact S0
  iintro ⟨H0, H1, H2, H3, H4, H5, H6, H7, H8, H9, H10, H11, H12, H13, H14, H15, H16, H17, H18, H19, H20, H21, H22, H23, H24, S0⟩
  isplitl [S0 Hg]
  · isplitl [S0]; · iexact S0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at a point is the body there. -/
theorem body_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) :
    BodyObligation (dats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- Every run ends with the inputs' arrays as launched and the semaphores at zero. -/
theorem run_main : θ_run defs (onTc (τ := τ) (main (F := F))) (s₀ m ρ)
    (fun r => (Pipeline.RDat.FramePost (cfgs 0) (fun c => (dats m 0 c).toRForget forgotten) (V m)) r
      ∧ r.2.sem = fun _ => 0) :=
  Pipeline.θ_run_frame_track_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c =>
      ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c)),
      (Pipeline.RDat.FramePost.arr_in h.1 c 10 rfl).trans ((A_eq m c 10).trans (V_main_arg10 m c)),
      (Pipeline.RDat.FramePost.arr_in h.1 c 11 rfl).trans ((A_eq m c 11).trans (V_main_arg11 m c)),
      (Pipeline.RDat.FramePost.arr_in h.1 c 12 rfl).trans ((A_eq m c 12).trans (V_main_arg12 m c)),
      (Pipeline.RDat.FramePost.arr_in h.1 c 13 rfl).trans ((A_eq m c 13).trans (V_main_arg13 m c)),
      (Pipeline.RDat.FramePost.arr_in h.1 c 17 rfl).trans ((A_eq m c 17).trans (V_main_arg14 m c)),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      (Pipeline.RDat.FramePost.arr_in h.1 c 16 rfl).trans ((A_eq m c 16).trans (V_main_arg17 m c))⟩,
      h.2⟩) (run_main m ρ)

end Cert.Kernel8Ideal.Scan

end
-- ==== Proof.MobaIdealRun.lean ====
/- The attention call's body: one run of it at a grid point keeps its inputs' buffers as they were,
   and leaves its outputs' and its scratch buffers at some contents. -/
module

public import proofs.«01_k».proof.Proof.Gen.Kernel6Ideal.Frame
public import proofs.«01_k».proof.Proof.Gen.Kernel6Ideal.Loops
public import proofs.«01_k».proof.Proof.Gen.Kernel6Ideal.Skeleton

@[expose] public section

set_option maxRecDepth 16384

noncomputable section

namespace Cert.Kernel6Ideal.Moba

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers while the body runs: the inputs' at their contents, the others at some contents. -/
abbrev held (c : Dev nD)
    (arg3 : Memref sig .tc .vmem S1x256x512 .f32) (harg3 : arg3.IsWhole)
    (arg4 : Memref sig .tc .vmem S1x4096x512 .f32) (harg4 : arg4.IsWhole)
    (arg5 : Memref sig .tc .vmem S1x4096x512 .f32) (harg5 : arg5.IsWhole)
    (arg6 : Memref sig .tc .vmem S1x16x5632 .f32) (harg6 : arg6.IsWhole)
    (arg7 : Memref sig .tc .vmem S1x16x5632 .f32) (harg7 : arg7.IsWhole)
    (arg8 : Memref sig .tc .vmem S1x16x5632 .f32) (harg8 : arg8.IsWhole)
    (arg9 : Memref sig .tc .vmem S1x16x5632 .f32) (harg9 : arg9.IsWhole)
    (arg10 : Memref sig .tc .vmem S1x16x5632 .f32) (harg10 : arg10.IsWhole)
    (arg11 : Memref sig .tc .vmem S1x16x5632 .f32) (harg11 : arg11.IsWhole)
    (arg12 : Memref sig .tc .vmem S1x256x512 .bf16) (harg12 : arg12.IsWhole)
    (arg13 : Memref sig .tc .vmem S16x5632 .bf16) (harg13 : arg13.IsWhole)
    (arg14 : Memref sig .tc .vmem S16x5632 .bf16) (harg14 : arg14.IsWhole)
    (arg15 : Memref sig .tc .vmem S16x5632 .bf16) (harg15 : arg15.IsWhole)
    (arg16 : Memref sig .tc .vmem S16x5632 .bf16) (harg16 : arg16.IsWhole)
    (arg17 : Memref sig .tc .vmem S16x5632 .bf16) (harg17 : arg17.IsWhole)
    (arg18 : Memref sig .tc .vmem S16x5632 .bf16) (harg18 : arg18.IsWhole)
    (arg19 : Memref sig .tc .vmem S4x16x256x128 .bf16) (harg19 : arg19.IsWhole)
    (arg20 : Memref sig .tc .vmem S4x16x128x256 .bf16) (harg20 : arg20.IsWhole)
    (arg21 : Memref sig .tc .vmem S4x16x128 .f32) (harg21 : arg21.IsWhole)
    (arg22 : Memref sig .tc .vmem S4x16x256 .f32) (harg22 : arg22.IsWhole)
    (arg23 : Memref sig .tc .vmem S4x256x256 .f32) (harg23 : arg23.IsWhole)
    (arg24 : Memref sig .tc .vmem S4x256x256 .f32) (harg24 : arg24.IsWhole)
    (arg25 : Memref sig .tc .vmem S4x128x256 .f32) (harg25 : arg25.IsWhole)
    (x0 : Vec F S1x256x512 .f32) (x1 : Vec F S1x4096x512 .f32) (x2 : Vec F S1x4096x512 .f32)
    (x3 : Vec F S1x16x5632 .f32) (x4 : Vec F S1x16x5632 .f32) (x5 : Vec F S1x16x5632 .f32)
    (x6 : Vec F S1x16x5632 .f32) (x7 : Vec F S1x16x5632 .f32) (x8 : Vec F S1x16x5632 .f32) : sProp 𝕄 :=
  iprop(owns (c : Thread nD τ) arg3 fullShare x0 ∗ owns (c : Thread nD τ) arg4 fullShare x1
    ∗ owns (c : Thread nD τ) arg5 fullShare x2 ∗ owns (c : Thread nD τ) arg6 fullShare x3
    ∗ owns (c : Thread nD τ) arg7 fullShare x4 ∗ owns (c : Thread nD τ) arg8 fullShare x5
    ∗ owns (c : Thread nD τ) arg9 fullShare x6 ∗ owns (c : Thread nD τ) arg10 fullShare x7
    ∗ owns (c : Thread nD τ) arg11 fullShare x8
    ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d)
    ∗ (∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg21 fullShare d)
    ∗ (∃ d, owns (c : Thread nD τ) arg22 fullShare d) ∗ (∃ d, owns (c : Thread nD τ) arg23 fullShare d)
    ∗ (∃ d, owns (c : Thread nD τ) arg24 fullShare d) ∗ (∃ d, owns (c : Thread nD τ) arg25 fullShare d))

set_option maxHeartbeats 4000000 in
/-- The body's run on whole buffers. The one conditional (the preparation of the keys and values at a
    sequence's first block) is decided either way; the two counted loops go by their generated invariants. -/
theorem run (c : Dev nD) (i : grid0.Coords)
    (arg3 : Memref sig .tc .vmem S1x256x512 .f32) (harg3 : arg3.IsWhole)
    (arg4 : Memref sig .tc .vmem S1x4096x512 .f32) (harg4 : arg4.IsWhole)
    (arg5 : Memref sig .tc .vmem S1x4096x512 .f32) (harg5 : arg5.IsWhole)
    (arg6 : Memref sig .tc .vmem S1x16x5632 .f32) (harg6 : arg6.IsWhole)
    (arg7 : Memref sig .tc .vmem S1x16x5632 .f32) (harg7 : arg7.IsWhole)
    (arg8 : Memref sig .tc .vmem S1x16x5632 .f32) (harg8 : arg8.IsWhole)
    (arg9 : Memref sig .tc .vmem S1x16x5632 .f32) (harg9 : arg9.IsWhole)
    (arg10 : Memref sig .tc .vmem S1x16x5632 .f32) (harg10 : arg10.IsWhole)
    (arg11 : Memref sig .tc .vmem S1x16x5632 .f32) (harg11 : arg11.IsWhole)
    (arg12 : Memref sig .tc .vmem S1x256x512 .bf16) (harg12 : arg12.IsWhole)
    (arg13 : Memref sig .tc .vmem S16x5632 .bf16) (harg13 : arg13.IsWhole)
    (arg14 : Memref sig .tc .vmem S16x5632 .bf16) (harg14 : arg14.IsWhole)
    (arg15 : Memref sig .tc .vmem S16x5632 .bf16) (harg15 : arg15.IsWhole)
    (arg16 : Memref sig .tc .vmem S16x5632 .bf16) (harg16 : arg16.IsWhole)
    (arg17 : Memref sig .tc .vmem S16x5632 .bf16) (harg17 : arg17.IsWhole)
    (arg18 : Memref sig .tc .vmem S16x5632 .bf16) (harg18 : arg18.IsWhole)
    (arg19 : Memref sig .tc .vmem S4x16x256x128 .bf16) (harg19 : arg19.IsWhole)
    (arg20 : Memref sig .tc .vmem S4x16x128x256 .bf16) (harg20 : arg20.IsWhole)
    (arg21 : Memref sig .tc .vmem S4x16x128 .f32) (harg21 : arg21.IsWhole)
    (arg22 : Memref sig .tc .vmem S4x16x256 .f32) (harg22 : arg22.IsWhole)
    (arg23 : Memref sig .tc .vmem S4x256x256 .f32) (harg23 : arg23.IsWhole)
    (arg24 : Memref sig .tc .vmem S4x256x256 .f32) (harg24 : arg24.IsWhole)
    (arg25 : Memref sig .tc .vmem S4x128x256 .f32) (harg25 : arg25.IsWhole)
    (x0 : Vec F S1x256x512 .f32) (x1 : Vec F S1x4096x512 .f32) (x2 : Vec F S1x4096x512 .f32)
    (x3 : Vec F S1x16x5632 .f32) (x4 : Vec F S1x16x5632 .f32) (x5 : Vec F S1x16x5632 .f32)
    (x6 : Vec F S1x16x5632 .f32) (x7 : Vec F S1x16x5632 .f32) (x8 : Vec F S1x16x5632 .f32) (E : Set ℕ) (K : PUnit → sProp 𝕄) :
    iprop(held c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8
        ∗ (held c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 -∗ K ⟨⟩))
      ⊢ wp frame (wpE (defs₀ (F := F)) Variants.none c none) E
        (cc0_moba i
          arg3 harg3 arg4 harg4 arg5 harg5 arg6 harg6 arg7 harg7 arg8 harg8
          arg9 harg9 arg10 harg10 arg11 harg11 arg12 harg12 arg13 harg13 arg14 harg14
          arg15 harg15 arg16 harg16 arg17 harg17 arg18 harg18 arg19 harg19 arg20 harg20
          arg21 harg21 arg22 harg22 arg23 harg23 arg24 harg24 arg25 harg25) K := by
  simp only [cc0_moba_eq_skeleton]; unfold cc0_moba_skel
  simp only [k0_part95_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  by_cases hc : (Scalar.cmpi .ne (Scalar.extui (Scalar.cmpi .eq (BitVec.ofNat 32 (i 2).val) 0#32)) 0#32) = 1#1
  all_goals
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

end Cert.Kernel6Ideal.Moba

end
-- ==== Proof.MobaIdealFrame.lean ====
/- The frame of the attention call: every run ends, leaves the argument arrays unchanged and every
   semaphore at zero. What the body leaves in its outputs is not named. -/
module

public import proofs.«01_k».proof.Proof.MobaIdealRun
public import Idealize.ShloMosaic.Lib.Claim

@[expose] public section

set_option maxRecDepth 16384

noncomputable section

namespace Cert.Kernel6Ideal.Moba

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents nothing is said. -/
def forgotten : Fin 16 → Bool := fun w => decide (9 ≤ w.val)

/-- The call's proof data: the arrays as launched, each input's buffer at its block after the body, the outputs
    unnamed, the scratch at anything between points, and nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! Each input's buffer holds its block at every point. -/

theorem before_0 (c : Dev nD) (t : Fin cfg0.N) (d) : (dats m 0 c).before 0 t d = X0_0 m c t :=
  before0_0_of m (dats m 0 c) (A_eq m c 0) (fun _ => rfl) t d
theorem before_1 (c : Dev nD) (t : Fin cfg0.N) (d) : (dats m 0 c).before 1 t d = X0_1 m c t :=
  before0_1_of m (dats m 0 c) (A_eq m c 1) (fun _ => rfl) t d
theorem before_2 (c : Dev nD) (t : Fin cfg0.N) (d) : (dats m 0 c).before 2 t d = X0_2 m c t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d

/-- The scratch and the generator register, each scratch buffer owned at some contents. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d))
        ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d) ∗ (∃ d, owns (c : Thread nD τ) (st0_10 t) fullShare d)
    ∗ (∃ d, owns (c : Thread nD τ) (st0_11 t) fullShare d) ∗ (∃ d, owns (c : Thread nD τ) (st0_12 t) fullShare d)
    ∗ (∃ d, owns (c : Thread nD τ) (st0_13 t) fullShare d) ∗ (∃ d, owns (c : Thread nD τ) (st0_14 t) fullShare d)
    ∗ (∃ d, owns (c : Thread nD τ) (st0_15 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d) ∗ (∃ d, owns (c : Thread nD τ) (st0_10 t) fullShare d)
    ∗ (∃ d, owns (c : Thread nD τ) (st0_11 t) fullShare d) ∗ (∃ d, owns (c : Thread nD τ) (st0_12 t) fullShare d)
    ∗ (∃ d, owns (c : Thread nD τ) (st0_13 t) fullShare d) ∗ (∃ d, owns (c : Thread nD τ) (st0_14 t) fullShare d)
    ∗ (∃ d, owns (c : Thread nD τ) (st0_15 t) fullShare d))

set_option maxHeartbeats 4000000 in
/-- The body at a point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl, scratch_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15⟩
  iapply (run c (grid0.coords t) _ _ _ _ _ _ _ _ _ _ _ _ _ _ _ _ _ _ _ _ _ _ _ _ _ _ _ _ _ _ _ _ _ _ _ _ _ _ _ _ _ _ _ _ _ _
    (X0_0 m c t) (X0_1 m c t) (X0_2 m c t) (iblk m c 3 t) (iblk m c 4 t) (iblk m c 5 t) (iblk m c 6 t) (iblk m c 7 t) (iblk m c 8 t) Set.univ _)
  isplitl [H0 H1 H2 H3 H4 H5 H6 H7 H8 H9 H10 H11 H12 H13 H14 H15 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, H12, H13, H14, H15, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point is the body there. -/
theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- Every run ends with the inputs' arrays as launched and the semaphores at zero. -/
theorem run_main : θ_run defs (onTc (τ := τ) (main (F := F))) (s₀ m ρ)
    (fun r => (Pipeline.RDat.FramePost (cfgs 0) (fun c => (dats m 0 c).toRForget forgotten) (V m)) r
      ∧ r.2.sem = fun _ => 0) :=
  Pipeline.θ_run_frame_track_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(Pipeline.RDat.FramePost.arr_in h.1 c 2 rfl).trans ((A_eq m c 2).trans (V_main_arg0 m c)),
      (Pipeline.RDat.FramePost.arr_in h.1 c 5 rfl).trans ((A_eq m c 5).trans (V_main_arg1 m c)),
      (Pipeline.RDat.FramePost.arr_in h.1 c 6 rfl).trans ((A_eq m c 6).trans (V_main_arg2 m c)),
      (Pipeline.RDat.FramePost.arr_in h.1 c 7 rfl).trans ((A_eq m c 7).trans (V_main_arg3 m c)),
      (Pipeline.RDat.FramePost.arr_in h.1 c 8 rfl).trans ((A_eq m c 8).trans (V_main_arg4 m c))⟩,
      h.2⟩) (run_main m ρ)

end Cert.Kernel6Ideal.Moba

end
-- ==== Proof.FfnBlocks.lean ====
/-
  Which elements of the feed-forward call's arguments each staged block holds: the row block of the residual stream, the two gains,
  and the block of 512 hidden units of the three weight matrices.
-/
module

public import proofs.«01_k».proof.Proof.Gen.KernelIdeal.Value
public import Idealize.ShloMosaic.Lib.Pointwise

@[expose] public section

noncomputable section

namespace Cert.Ffn

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The printed index maps: the row block is the point divided by 11, the hidden block its remainder. -/
theorem index_facts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0)
    ∧ (win0_5.index t (0 : Fin 2) = 0 ∧ win0_5.index t (1 : Fin 2) = 0) :=
  (by decide +kernel : ∀ t : Fin grid0.N, _)

theorem point_lt : t.val < 176 := lt_of_lt_of_eq t.isLt N_0

/-- The residual rows of the point's row block. -/
theorem iblk_h (r : Fin 1024) (k : Fin 2048) :
    (iblk m c 0 t : Vec Ideal S1024x2048 .f32) (ix2 r k)
      = m ((c : Thread nD τ).loc main_arg0) (ix2 ⟨1024 * (t.val / 11) + r.val, by have := point_lt t; omega⟩ k) := by
  have hi := (index_facts t).1
  unfold iblk
  rw [View.read_apply]
  show V m c main_arg0 _ = _
  rw [V_main_arg0]
  congr 1
  funext a
  apply Fin.ext
  match a with
  | ⟨0, _⟩ => show win0_0.index t (0 : Fin 2) * 1024 + 1 * r.val = 1024 * (t.val / 11) + r.val; rw [hi.1]; omega
  | ⟨1, _⟩ => show win0_0.index t (1 : Fin 2) * 2048 + 1 * k.val = k.val; rw [hi.2]; omega

/-- The gain row. -/
theorem iblk_g (k : Fin 2048) :
    (iblk m c 1 t : Vec Ideal S1x2048 .f32) (ix2 0 k) = m ((c : Thread nD τ).loc main_arg1) (ix2 0 k) := by
  have hi := (index_facts t).2.1
  unfold iblk
  rw [View.read_apply]
  show V m c main_arg1 _ = _
  rw [V_main_arg1]
  congr 1
  funext a
  apply Fin.ext
  match a with
  | ⟨0, _⟩ => show win0_1.index t (0 : Fin 2) * 1 + 1 * 0 = 0; rw [hi.1]
  | ⟨1, _⟩ => show win0_1.index t (1 : Fin 2) * 2048 + 1 * k.val = k.val; rw [hi.2]; omega

/-- The gate weights of the point's 512 hidden units. -/
theorem iblk_wg (k : Fin 2048) (q : Fin 512) :
    (iblk m c 2 t : Vec Ideal S2048x512 .bf16) (ix2 k q)
      = m ((c : Thread nD τ).loc main_arg2) (ix2 k ⟨512 * (t.val % 11) + q.val, by omega⟩) := by
  have hi := (index_facts t).2.2.1
  unfold iblk
  rw [View.read_apply]
  show V m c main_arg2 _ = _
  rw [V_main_arg2]
  congr 1
  funext a
  apply Fin.ext
  match a with
  | ⟨0, _⟩ => show win0_2.index t (0 : Fin 2) * 2048 + 1 * k.val = k.val; rw [hi.1]; omega
  | ⟨1, _⟩ => show win0_2.index t (1 : Fin 2) * 512 + 1 * q.val = 512 * (t.val % 11) + q.val; rw [hi.2]; omega

/-- The up weights of the point's 512 hidden units. -/
theorem iblk_wu (k : Fin 2048) (q : Fin 512) :
    (iblk m c 3 t : Vec Ideal S2048x512 .bf16) (ix2 k q)
      = m ((c : Thread nD τ).loc main_arg3) (ix2 k ⟨512 * (t.val % 11) + q.val, by omega⟩) := by
  have hi := (index_facts t).2.2.2.1
  unfold iblk
  rw [View.read_apply]
  show V m c main_arg3 _ = _
  rw [V_main_arg3]
  congr 1
  funext a
  apply Fin.ext
  match a with
  | ⟨0, _⟩ => show win0_3.index t (0 : Fin 2) * 2048 + 1 * k.val = k.val; rw [hi.1]; omega
  | ⟨1, _⟩ => show win0_3.index t (1 : Fin 2) * 512 + 1 * q.val = 512 * (t.val % 11) + q.val; rw [hi.2]; omega

/-- The down weights of the point's 512 hidden units. -/
theorem iblk_wd (q : Fin 512) (l : Fin 2048) :
    (iblk m c 4 t : Vec Ideal S512x2048 .bf16) (ix2 q l)
      = m ((c : Thread nD τ).loc main_arg4) (ix2 ⟨512 * (t.val % 11) + q.val, by omega⟩ l) := by
  have hi := (index_facts t).2.2.2.2.1
  unfold iblk
  rw [View.read_apply]
  show V m c main_arg4 _ = _
  rw [V_main_arg4]
  congr 1
  funext a
  apply Fin.ext
  match a with
  | ⟨0, _⟩ => show win0_4.index t (0 : Fin 2) * 512 + 1 * q.val = 512 * (t.val % 11) + q.val; rw [hi.1]; omega
  | ⟨1, _⟩ => show win0_4.index t (1 : Fin 2) * 2048 + 1 * l.val = l.val; rw [hi.2]; omega

/-- The final gain row. -/
theorem iblk_fg (k : Fin 2048) :
    (iblk m c 5 t : Vec Ideal S1x2048 .f32) (ix2 0 k) = m ((c : Thread nD τ).loc main_arg5) (ix2 0 k) := by
  have hi := (index_facts t).2.2.2.2.2
  unfold iblk
  rw [View.read_apply]
  show V m c main_arg5 _ = _
  rw [V_main_arg5]
  congr 1
  funext a
  apply Fin.ext
  match a with
  | ⟨0, _⟩ => show win0_5.index t (0 : Fin 2) * 1 + 1 * 0 = 0; rw [hi.1]
  | ⟨1, _⟩ => show win0_5.index t (1 : Fin 2) * 2048 + 1 * k.val = k.val; rw [hi.2]; omega

end Cert.Ffn

end
-- ==== Proof.FfnCases.lean ====
/-
  What each of the feed-forward kernel's three kinds of grid point leaves in the output block and in the carried normed block, as
  the skeleton's stored values applied to the point's input blocks.
-/
module

public import proofs.«01_k».proof.Proof.Gen.KernelIdeal.Value
public import Idealize.ShloMosaic.Lib.Pipeline.Value

@[expose] public section

noncomputable section

namespace Cert.Ffn

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

section Cases

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1x2048 .f32) (h7 : a7.IsWhole)
  (a8 : Memref sig .tc .vmem S1024x2048 .f32) (h8 : a8.IsWhole) (a9 : Memref sig .tc .vmem S1024x2048 .bf16) (h9 : a9.IsWhole)
  (x0 : Vec F S1024x2048 .f32) (x1 : Vec F S1x2048 .f32) (x2 x3 : Vec F S2048x512 .bf16) (x4 : Vec F S512x2048 .bf16)
  (x5 : Vec F S1x2048 .f32) (xo : Vec F S1024x2048 .f32) (xs : Vec F S1024x2048 .bf16)

/-- At a row block's first point the carried block is the normed input block. -/
theorem scr_A (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero hz]
  simp only [View.readAt_eq_ld, h2.read_unread, h3.read_unread, View.ld_unit_zero (S := S1024x2048) hz,
    View.ld_unit_zero (S := S1x2048) hz]

/-- At a row block's first point the output block is the input block plus the first hidden block's contribution. -/
theorem out_A (hc0 : cond0_0 i) (hc1 : ¬cond0_1 i) :
    out0_A_6 c i a2 h2 a3 h3 a4 h4 a5 h5 a6 h6 a7 h7 a8 h8 a9 h9 hc0 hc1 x0 x1 x2 x3 x4 x5
      = k0_pay2 (k0_pay1 x0 x1) x2 x3 x0 x4 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x2048) hz]
  simp only [View.readAt_eq_ld, h2.read_unread, h3.read_unread, h4.read_unread, h5.read_unread, h6.read_unread,
    View.readCov_unit_zero (S := S1024x2048) _ hz,
    View.ld_unit_zero (S := S1024x2048) hz, View.ld_unit_zero (S := S1x2048) hz, View.ld_unit_zero (S := S2048x512) hz,
    View.ld_unit_zero (S := S512x2048) hz]

/-- At a middle point the output block gains its hidden block's contribution, computed from the carried block. -/
theorem out_B (hc0 : ¬cond0_0 i) (hc1 : ¬cond0_1 i) :
    out0_B_6 c i a2 h2 a3 h3 a4 h4 a5 h5 a6 h6 a7 h7 a8 h8 a9 h9 hc0 hc1 x0 x1 x2 x3 x4 x5 xo xs
      = k0_pay2 xs x2 x3 xo x4 := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  sl_unfold_words
  rw [View.canon_unit_zero (S := S1024x2048) hz]
  simp only [View.readAt_eq_ld, h4.read_unread, h5.read_unread, h6.read_unread, h8.read_unread, h9.read_unread,
    View.ld_unit_zero (S := S1024x2048) hz, View.ld_unit_zero (S := S2048x512) hz, View.ld_unit_zero (S := S512x2048) hz]

/-- At a row block's last point the output block gains the last contribution and is then normed with the final gain. -/
theorem out_C (hc0 : ¬cond0_0 i) (hc1 : cond0_1 i) :
    out0_C_6 c i a2 h2 a3 h3 a4 h4 a5 h5 a6 h6 a7 h7 a8 h8 a9 h9 hc0 hc1 x0 x1 x2 x3 x4 x5 xo xs
      = k0_pay3 (k0_pay2 xs x2 x3 xo x4) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S1024x2048) hz]
  simp only [View.readAt_eq_ld, h4.read_unread, h5.read_unread, h6.read_unread, h7.read_unread, h8.read_unread, h9.read_unread,
    View.readCov_unit_zero (S := S1024x2048) _ hz,
    View.ld_unit_zero (S := S1024x2048) hz, View.ld_unit_zero (S := S1x2048) hz, View.ld_unit_zero (S := S2048x512) hz,
    View.ld_unit_zero (S := S512x2048) hz]

end Cases

end Cert.Ffn

end
-- ==== Proof.FfnMath.lean ====
/-
  The mathematics of one feed-forward call over the extended reals, written once for the kernel and for the reference: a row's
  root-mean-square norm, the gated activation of one hidden unit, the sum of the hidden units' contributions, and the law that
  lets the sum over 5632 hidden units be taken 512 at a time with the factor one half inside.
-/
module

public import Idealize.ShloMosaic.Lib.Pointwise
public import Idealize.ShloMosaic.Lib.ValueIdx
public import Mathlib.Algebra.BigOperators.Fin

@[expose] public section

noncomputable section

namespace Cert.Ffn

open Idealize.ShloMosaic
open scoped BigOperators

/-- The number of lanes a mean is taken over, the guard added to it, and the factor of a half-step, as the programs' constants. -/
abbrev cMean : EReal := Ideal.ofBits .f32 0x45000000#32
abbrev cEps : EReal := Ideal.ofBits .f32 0x358637BD#32
abbrev cHalf : EReal := Ideal.ofBits .f32 0x3F000000#32

/-- Lane `l` of the root-mean-square norm of a row `x` with gain `g`. -/
def rms (x g : Fin 2048 → EReal) (l : Fin 2048) : EReal :=
  x l * Ideal.rsqrt (Ideal.div (∑ k : Fin 2048, x k * x k) cMean + cEps) * g l

/-- One hidden unit of the gated feed-forward: `silu (n · a) * (n · b)` for the normed row `n` and the unit's two weight columns. -/
def unit (n a b : Fin 2048 → EReal) : EReal :=
  (∑ k : Fin 2048, n k * a k) * Ideal.logistic (∑ k : Fin 2048, n k * a k) * ∑ k : Fin 2048, n k * b k

/-- The constant one half is a real number that is not negative. -/
theorem cHalf_eq : cHalf = ((1 / 2 : ℝ) : EReal) := by
  simp [cHalf, Ideal.ofBits, Ideal.ieee, -EReal.coe_mul]; norm_num

/-- One half distributes over any sum of two extended reals. -/
theorem half_add (x y : EReal) : cHalf * (x + y) = cHalf * x + cHalf * y := by
  rw [cHalf_eq]
  exact EReal.left_distrib_of_nonneg_of_ne_top (by norm_cast; norm_num) (EReal.coe_ne_top _) _ _

/-- Hidden unit `p`'s contribution to lane `l` of the output: its gated activation times its row of the down projection
    (nothing past the last of the 5632 units). -/
def hidden (n : Fin 2048 → EReal) (a b : Fin 2048 → Fin 5632 → EReal) (d : Fin 5632 → Fin 2048 → EReal) (l : Fin 2048) (p : ℕ) : EReal :=
  if h : p < 5632 then unit n (fun k => a k ⟨p, h⟩) (fun k => b k ⟨p, h⟩) * d ⟨p, h⟩ l else 0

/-- The half-step output after the first `J` hidden units, at lane `l` of a row `x` whose norm is `n`. -/
def partialOut (x n : Fin 2048 → EReal) (a b : Fin 2048 → Fin 5632 → EReal) (d : Fin 5632 → Fin 2048 → EReal) (J : ℕ)
    (l : Fin 2048) : EReal :=
  x l + cHalf * ∑ p ∈ Finset.range J, hidden n a b d l p

/-- A block of 512 hidden units, added with its factor one half, carries the partial output to the next block's start. -/
theorem partialOut_add (x n : Fin 2048 → EReal) (a b : Fin 2048 → Fin 5632 → EReal) (d : Fin 5632 → Fin 2048 → EReal) (J : ℕ)
    (l : Fin 2048) :
    partialOut x n a b d J l + cHalf * ∑ q : Fin 512, hidden n a b d l (J + q.val) = partialOut x n a b d (J + 512) l := by
  unfold partialOut
  rw [Finset.sum_range_add, half_add, add_assoc, Finset.sum_range fun x => hidden n a b d l (J + x)]

/-- Before the first hidden unit the partial output is the row itself. -/
theorem partialOut_zero (x n : Fin 2048 → EReal) (a b : Fin 2048 → Fin 5632 → EReal) (d : Fin 5632 → Fin 2048 → EReal)
    (l : Fin 2048) : partialOut x n a b d 0 l = x l := by
  simp [partialOut]

/-- After all hidden units it is the row plus half of the whole feed-forward sum. -/
theorem partialOut_all (x n : Fin 2048 → EReal) (a b : Fin 2048 → Fin 5632 → EReal) (d : Fin 5632 → Fin 2048 → EReal)
    (l : Fin 2048) :
    partialOut x n a b d 5632 l
      = x l + cHalf * ∑ p : Fin 5632, unit n (fun k => a k p) (fun k => b k p) * d p l := by
  unfold partialOut
  rw [Finset.sum_range]
  refine congrArg (fun s => x l + cHalf * s) (Finset.sum_congr rfl fun p _ => ?_)
  unfold hidden
  rw [dif_pos p.isLt]

end Cert.Ffn

end
-- ==== Proof.FfnPay.lean ====
/-
  What the feed-forward kernel's three stored values are at an index, at the ideal instance: the normed block, one block of
  hidden units added into the running output, and the final norm of the finished output.
-/
module

public import proofs.«01_k».proof.Proof.Gen.KernelIdeal.Skeleton
public import proofs.«01_k».proof.Proof.FfnMath

@[expose] public section

noncomputable section

namespace Cert.Ffn

open Idealize.ShloMosaic
open Cert.KernelIdeal Cert.KernelIdeal.Gen
open scoped BigOperators

/-- The first stored value: the root-mean-square norm of each row of the input block. -/
theorem pay1_apply (x : Vec Ideal S1024x2048 .f32) (g : Vec Ideal S1x2048 .f32) (r : Fin 1024) (l : Fin 2048) :
    k0_pay1 x g (ix2 r l) = rms (fun k => x (ix2 r k)) (fun k => g (ix2 0 k)) l := by
  pointwise [k0_pay1, rms, shapeCast_self]

/-- The final stored value: the same norm of the finished output block, with the final gain. -/
theorem pay3_apply (x : Vec Ideal S1024x2048 .f32) (g : Vec Ideal S1x2048 .f32) (r : Fin 1024) (l : Fin 2048) :
    k0_pay3 x g (ix2 r l) = rms (fun k => x (ix2 r k)) (fun k => g (ix2 0 k)) l := by
  pointwise [k0_pay3, rms, shapeCast_self]

/-- The running output: what it held plus half of the 512 hidden units' contributions. -/
theorem pay2_apply (n : Vec Ideal S1024x2048 .bf16) (a b : Vec Ideal S2048x512 .bf16) (o : Vec Ideal S1024x2048 .f32)
    (d : Vec Ideal S512x2048 .bf16) (r : Fin 1024) (l : Fin 2048) :
    k0_pay2 n a b o d (ix2 r l) = o (ix2 r l)
      + cHalf * ∑ q : Fin 512, unit (fun k => n (ix2 r k)) (fun k => a (ix2 k q)) (fun k => b (ix2 k q)) * d (ix2 q l) := by
  pointwise [k0_pay2, unit, shapeCast_self]

end Cert.Ffn

end
-- ==== Proof.FfnFold.lean ====
/-
  The feed-forward kernel's result, element by element: after a row block's point number `j` the carried block holds the normed rows
  and the output block the rows plus half of the first `512 (j + 1)` hidden units' contributions, and after the last point the final
  norm of the finished rows — by induction on the grid point.
-/
module

public import proofs.«01_k».proof.Proof.FfnBlocks
public import proofs.«01_k».proof.Proof.FfnCases
public import proofs.«01_k».proof.Proof.FfnPay

@[expose] public section

noncomputable section

namespace Cert.Ffn

open Idealize.ShloMosaic Idealize.ShloMosaic.TcCoe Idealize.SL.Sem
open Cert.KernelIdeal Cert.KernelIdeal.Gen
open scoped BigOperators

/-- The arguments as tables: a row of the residual stream, a gain, a weight matrix. -/
abbrev rowOf (H : (⟨2, ![16384, 2048]⟩ : Shape).Idx → EReal) (R : Fin 16384) : Fin 2048 → EReal := fun k => H (ix2 R k)
abbrev gainOf (G : (⟨2, ![1, 2048]⟩ : Shape).Idx → EReal) : Fin 2048 → EReal := fun k => G (ix2 0 k)
abbrev colsOf (W : (⟨2, ![2048, 5632]⟩ : Shape).Idx → EReal) : Fin 2048 → Fin 5632 → EReal := fun k p => W (ix2 k p)
abbrev rowsOf (W : (⟨2, ![5632, 2048]⟩ : Shape).Idx → EReal) : Fin 5632 → Fin 2048 → EReal := fun p l => W (ix2 p l)

/-- Row `R` of the half-step output after the first `J` hidden units. -/
abbrev stepOut (H : (⟨2, ![16384, 2048]⟩ : Shape).Idx → EReal) (G : (⟨2, ![1, 2048]⟩ : Shape).Idx → EReal)
    (A B : (⟨2, ![2048, 5632]⟩ : Shape).Idx → EReal) (D : (⟨2, ![5632, 2048]⟩ : Shape).Idx → EReal) (J : ℕ) (R : Fin 16384) :
    Fin 2048 → EReal :=
  partialOut (rowOf H R) (rms (rowOf H R) (gainOf G)) (colsOf A) (colsOf B) (rowsOf D) J

variable (m : (ℓ : Loc nD τ sig) → Buf (Elt Ideal) ℓ) (c : Dev nD)

/-- The launch's arguments. -/
abbrev argH : (⟨2, ![16384, 2048]⟩ : Shape).Idx → EReal := m ((c : Thread nD τ).loc main_arg0)
abbrev argG : (⟨2, ![1, 2048]⟩ : Shape).Idx → EReal := m ((c : Thread nD τ).loc main_arg1)
abbrev argA : (⟨2, ![2048, 5632]⟩ : Shape).Idx → EReal := m ((c : Thread nD τ).loc main_arg2)
abbrev argB : (⟨2, ![2048, 5632]⟩ : Shape).Idx → EReal := m ((c : Thread nD τ).loc main_arg3)
abbrev argD : (⟨2, ![5632, 2048]⟩ : Shape).Idx → EReal := m ((c : Thread nD τ).loc main_arg4)
abbrev argF : (⟨2, ![1, 2048]⟩ : Shape).Idx → EReal := m ((c : Thread nD τ).loc main_arg5)

/-- The row of the stream that is row `r` of point `n`'s block. -/
abbrev rowAt (n : ℕ) (h : n < cfg0.N) (r : Fin 1024) : Fin 16384 :=
  ⟨1024 * (n / 11) + r.val, by have := point_lt ⟨n, h⟩; dsimp only at this; omega⟩

/-- What the point norms, at an index. -/
theorem norm_at (t : Fin cfg0.N) (r : Fin 1024) (l : Fin 2048) :
    k0_pay1 (F := Ideal) (iblk m c 0 t) (iblk m c 1 t) (ix2 r l) = rms (rowOf (argH m c) (rowAt t.val t.isLt r)) (gainOf (argG m c)) l := by
  rw [pay1_apply]
  simp only [iblk_h, iblk_g]

/-- What the point adds, at an index: its block of 512 hidden units, for a carried block holding the normed rows. -/
theorem add_at (t : Fin cfg0.N) (xs : Vec Ideal S1024x2048 .bf16) (xo : Vec Ideal S1024x2048 .f32) (J : ℕ) (hJ : J = 512 * (t.val % 11))
    (hs : ∀ (r : Fin 1024) (l : Fin 2048), xs (ix2 r l) = rms (rowOf (argH m c) (rowAt t.val t.isLt r)) (gainOf (argG m c)) l)
    (ho : ∀ (r : Fin 1024) (l : Fin 2048), xo (ix2 r l)
      = stepOut (argH m c) (argG m c) (argA m c) (argB m c) (argD m c) J (rowAt t.val t.isLt r) l)
    (r : Fin 1024) (l : Fin 2048) :
    k0_pay2 (F := Ideal) xs (iblk m c 2 t) (iblk m c 3 t) xo (iblk m c 4 t) (ix2 r l)
      = stepOut (argH m c) (argG m c) (argA m c) (argB m c) (argD m c) (J + 512) (rowAt t.val t.isLt r) l := by
  rw [pay2_apply, ho r l]
  unfold stepOut
  rw [← partialOut_add]
  refine congrArg (fun s => _ + cHalf * s) (Finset.sum_congr rfl fun q _ => ?_)
  unfold hidden
  rw [dif_pos (show J + q.val < 5632 by omega)]
  subst hJ
  simp only [hs, iblk_wg, iblk_wu, iblk_wd]

/-- THE STATE after point `n`: the normed rows carried, and the output block finished up to the point's hidden block — normed with the
    final gain after the last. -/
theorem state_at : ∀ (n : ℕ) (h : n < cfg0.N),
    (∀ (r : Fin 1024) (l : Fin 2048), (outsAt0 m c n h).2 (ix2 r l) = rms (rowOf (argH m c) (rowAt n h r)) (gainOf (argG m c)) l)
    ∧ (n % 11 ≠ 10 → ∀ (r : Fin 1024) (l : Fin 2048), (outsAt0 m c n h).1 (ix2 r l)
        = stepOut (argH m c) (argG m c) (argA m c) (argB m c) (argD m c) (512 * (n % 11) + 512) (rowAt n h r) l)
    ∧ (n % 11 = 10 → ∀ (r : Fin 1024) (l : Fin 2048), (outsAt0 m c n h).1 (ix2 r l)
        = rms (stepOut (argH m c) (argG m c) (argA m c) (argB m c) (argD m c) 5632 (rowAt n h r)) (gainOf (argF m c)) l) := by
  intro n
  induction n with
  | zero =>
    intro h
    have e := outsAt0_A m c ⟨0, h⟩ rfl (by show ¬0 % 11 = 10; decide)
    dsimp only at e
    rw [e, out_A, scr_A]
    refine ⟨fun r l => norm_at m c ⟨0, h⟩ r l, fun _ r l => ?_, fun h0 => absurd h0 (by decide)⟩
    refine add_at m c ⟨0, h⟩ _ _ 0 rfl (fun r l => norm_at m c ⟨0, h⟩ r l) (fun r l => ?_) r l
    rw [iblk_h, stepOut, partialOut_zero]
  | succ n ih =>
    intro h
    by_cases hA : (n + 1) % 11 = 0
    · have hC : ¬(n + 1) % 11 = 10 := by omega
      have e := outsAt0_A m c ⟨n + 1, h⟩ hA hC
      dsimp only at e
      rw [e, out_A, scr_A]
      refine ⟨fun r l => norm_at m c ⟨n + 1, h⟩ r l, fun _ r l => ?_, fun h0 => absurd h0 hC⟩
      rw [hA]
      refine add_at m c ⟨n + 1, h⟩ _ _ 0 (by dsimp only; rw [hA]) (fun r l => norm_at m c ⟨n + 1, h⟩ r l) (fun r l => ?_) r l
      rw [iblk_h, stepOut, partialOut_zero]
    · obtain ⟨i1, i2, -⟩ := ih (Nat.lt_of_succ_lt h)
      have hrow : ∀ r : Fin 1024, rowAt n (Nat.lt_of_succ_lt h) r = rowAt (n + 1) h r := fun r =>
        Fin.ext (by show 1024 * (n / 11) + r.val = 1024 * ((n + 1) / 11) + r.val; rw [show n / 11 = (n + 1) / 11 by omega])
      have hJ : 512 * (n % 11) + 512 = 512 * ((n + 1) % 11) := by omega
      have i2' := i2 (by omega)
      simp only [hrow] at i1 i2'
      by_cases hC : (n + 1) % 11 = 10
      · have e := outsAt0_C m c ⟨n + 1, h⟩ hA hC
        dsimp only at e
        rw [e, out_C]
        refine ⟨i1, fun h0 => absurd hC h0, fun _ r l => ?_⟩
        refine (pay3_apply _ _ r l).trans ?_
        simp only [iblk_fg]
        refine congrArg (fun x => rms x _ l) (funext fun k => ?_)
        refine (add_at m c ⟨n + 1, h⟩ _ _ _ hJ i1 i2' r k).trans ?_
        rw [show 512 * (n % 11) + 512 + 512 = 5632 by omega]
      · have e := outsAt0_B m c ⟨n + 1, h⟩ hA hC
        dsimp only at e
        rw [e, out_B]
        refine ⟨i1, fun _ r l => ?_, fun h0 => absurd h0 hC⟩
        refine (add_at m c ⟨n + 1, h⟩ _ _ _ hJ i1 i2' r l).trans ?_
        rw [hJ]

/-- THE RESULT at an index: the final norm of the row plus half of its feed-forward. -/
theorem result_apply (R : Fin 16384) (l : Fin 2048) :
    Value.G6 m c (ix2 R l)
      = rms (stepOut (argH m c) (argG m c) (argA m c) (argB m c) (argD m c) 5632 R) (gainOf (argF m c)) l := by
  have hN : cfg0.N = 176 := N_0
  have hp : Value.pt6Of (ix2 R l) = 11 * (R.val / 1024) + 10 := by
    show 11 * (1 * (R.val / 1024 - 0) + 1 * (l.val / 2048 - 0)) + 10 = _; omega
  have hlt : Value.pt6Of (ix2 R l) < cfg0.N := by rw [hp, hN]; omega
  unfold Value.G6
  rw [dif_pos hlt, ← Value.outsAt0_sweep m c _ hlt]
  have hl : Value.loc6Of (ix2 R l) = ix2 ⟨R.val % 1024, Nat.mod_lt _ (by decide)⟩ l := by
    funext a; apply Fin.ext
    match a with
    | ⟨0, _⟩ => rfl
    | ⟨1, _⟩ => show l.val % 2048 = l.val; omega
  rw [hl, (state_at m c _ hlt).2.2 (by rw [hp]; omega)]
  refine congrArg (fun R' => rms (stepOut _ _ _ _ _ 5632 R') _ l) (Fin.ext ?_)
  show 1024 * (Value.pt6Of (ix2 R l) / 11) + R.val % 1024 = R.val
  rw [hp]; omega

end Cert.Ffn

end
-- ==== Proof.FfnRef.lean ====
/-
  The reference's result, element by element: the final norm of the row plus half of its gated feed-forward.
-/
module

public import proofs.«01_k».proof.Proof.Gen.ReferenceIdeal.Read
public import proofs.«01_k».proof.Proof.FfnMath

@[expose] public section

noncomputable section

namespace Cert.Ffn.Ref

open Idealize.ShloMosaic Idealize.ShloMosaic.TcCoe Idealize.SL.Sem
open Cert.ReferenceIdeal Cert.ReferenceIdeal.Gen Cert.ReferenceIdeal.Read
open scoped BigOperators

variable (H : FVec Ideal S16384x2048 .f32) (G : FVec Ideal S1x2048 .f32)
  (A B : FVec Ideal S2048x5632 .bf16) (D : FVec Ideal S5632x2048 .bf16) (Gf : FVec Ideal S1x2048 .f32)

/-- The reference's normed rows. -/
theorem normed_apply (R : Fin 16384) (l : Fin 2048) :
    val_main_v14 (F := Ideal) H G (ix2 R l) = rms (fun k => H (ix2 R k)) (fun k => G (ix2 0 k)) l := by
  pointwise [val_main_v14, val_main_v13, val_main_v12, val_main_v11, val_main_v10, val_main_v9, val_main_v8, val_main_cst_1,
    val_main_v7, val_main_v6, val_main_cst_0, val_main_v5, val_main_v4, val_main_cst, val_main_v3, rms]

/-- The reference's gated activation of hidden unit `p`. -/
theorem act_apply (R : Fin 16384) (p : Fin 5632) :
    val_main_v18 (F := Ideal) H G A B (ix2 R p)
      = unit (rms (fun k => H (ix2 R k)) (fun k => G (ix2 0 k))) (fun k => A (ix2 k p)) (fun k => B (ix2 k p)) := by
  pointwise [val_main_v18, val_main_v17, val_main_v16, val_main_call0_v5, val_main_call0_v4, val_main_call0_cst_0,
    val_main_call0_v3, val_main_call0_v2, val_main_call0_cst, val_main_call0_v1, val_main_call0_v0, val_main_v15, val_main_v0,
    val_main_v1, normed_apply, unit, Ideal.logistic]

/-- The reference's half-step output. -/
theorem step_apply (R : Fin 16384) (l : Fin 2048) :
    val_main_v22 (F := Ideal) H G A B D (ix2 R l)
      = partialOut (fun k => H (ix2 R k)) (rms (fun k => H (ix2 R k)) (fun k => G (ix2 0 k))) (fun k p => A (ix2 k p))
          (fun k p => B (ix2 k p)) (fun p k => D (ix2 p k)) 5632 l := by
  rw [partialOut_all]
  pointwise [val_main_v22, val_main_v21, val_main_v20, val_main_cst_2, val_main_v19, val_main_v2, act_apply]

/-- THE REFERENCE'S RESULT at an index. -/
theorem result_apply (R : Fin 16384) (l : Fin 2048) :
    val_main_v34 (F := Ideal) H G A B D Gf (ix2 R l)
      = rms (partialOut (fun k => H (ix2 R k)) (rms (fun k => H (ix2 R k)) (fun k => G (ix2 0 k))) (fun k p => A (ix2 k p))
          (fun k p => B (ix2 k p)) (fun p k => D (ix2 p k)) 5632) (fun k => Gf (ix2 0 k)) l := by
  pointwise [val_main_v34, val_main_v33, val_main_v32, val_main_v31, val_main_v30, val_main_v29, val_main_v28, val_main_cst_5,
    val_main_v27, val_main_v26, val_main_cst_4, val_main_v25, val_main_v24, val_main_cst_3, val_main_v23, step_apply, rms]

end Cert.Ffn.Ref

end
-- ==== Proof.Ix.lean ====
/-
  An index of a table is the pair, triple or quadruple of its coordinates: what closes a block read once each coordinate is known.
-/
module

public import Idealize.ShloMosaic.Lib.Pointwise

@[expose] public section

noncomputable section

namespace Cert.Ix

open Idealize.ShloMosaic

theorem two {n0 n1 : ℕ} {i : (⟨2, ![n0, n1]⟩ : Shape).Idx} {a : Fin n0} {b : Fin n1} (h0 : (i 0).val = a.val)
    (h1 : (i 1).val = b.val) : i = ix2 a b := by
  funext k
  match k with
  | ⟨0, _⟩ => exact Fin.ext h0
  | ⟨1, _⟩ => exact Fin.ext h1

theorem three {n0 n1 n2 : ℕ} {i : (⟨3, ![n0, n1, n2]⟩ : Shape).Idx} {a : Fin n0} {b : Fin n1} {c : Fin n2}
    (h0 : (i 0).val = a.val) (h1 : (i 1).val = b.val) (h2 : (i 2).val = c.val) : i = ix3 a b c := by
  funext k
  match k with
  | ⟨0, _⟩ => exact Fin.ext h0
  | ⟨1, _⟩ => exact Fin.ext h1
  | ⟨2, _⟩ => exact Fin.ext h2

theorem four {n0 n1 n2 n3 : ℕ} {i : (⟨4, ![n0, n1, n2, n3]⟩ : Shape).Idx} {a : Fin n0} {b : Fin n1} {c : Fin n2} {d : Fin n3}
    (h0 : (i 0).val = a.val) (h1 : (i 1).val = b.val) (h2 : (i 2).val = c.val) (h3 : (i 3).val = d.val) : i = ix4 a b c d := by
  funext k
  match k with
  | ⟨0, _⟩ => exact Fin.ext h0
  | ⟨1, _⟩ => exact Fin.ext h1
  | ⟨2, _⟩ => exact Fin.ext h2
  | ⟨3, _⟩ => exact Fin.ext h3

/-- Every index of a table is the pair of its coordinates. -/
theorem eq_two {n0 n1 : ℕ} (i : (⟨2, ![n0, n1]⟩ : Shape).Idx) : i = ix2 (i 0) (i 1) := two rfl rfl

theorem eq_three {n0 n1 n2 : ℕ} (i : (⟨3, ![n0, n1, n2]⟩ : Shape).Idx) : i = ix3 (i 0) (i 1) (i 2) := three rfl rfl rfl

end Cert.Ix

end
-- ==== Proof.MidBlocks.lean ====
/-
  The feed-forward call without the final norm: which elements of the arguments each staged block holds.
-/
module

public import proofs.«01_k».proof.Proof.Gen.Kernel2Ideal.Value
public import proofs.«01_k».proof.Proof.Ix

@[expose] public section

noncomputable section

namespace Cert.Mid

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- The printed index maps: the row block is the point divided by 11, the hidden block its remainder. -/
theorem index_facts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0) :=
  (by decide +kernel : ∀ t : Fin grid0.N, _)

theorem point_lt : t.val < 176 := lt_of_lt_of_eq t.isLt N_0

/-- The residual rows of the point's row block. -/
theorem iblk_h (r : Fin 1024) (k : Fin 2048) :
    (iblk m c 0 t : Vec Ideal S1024x2048 .f32) (ix2 r k)
      = m ((c : Thread nD τ).loc main_arg0) (ix2 ⟨1024 * (t.val / 11) + r.val, by have := point_lt t; omega⟩ k) := by
  have hi := (index_facts t).1
  unfold iblk
  rw [View.read_apply]
  show V m c main_arg0 _ = _
  rw [V_main_arg0]
  exact congrArg _ (Ix.two (by show win0_0.index t (0 : Fin 2) * 1024 + 1 * r.val = 1024 * (t.val / 11) + r.val; rw [hi.1]; omega)
    (by show win0_0.index t (1 : Fin 2) * 2048 + 1 * k.val = k.val; rw [hi.2]; omega))

/-- The gain row. -/
theorem iblk_g (k : Fin 2048) :
    (iblk m c 1 t : Vec Ideal S1x2048 .f32) (ix2 0 k) = m ((c : Thread nD τ).loc main_arg1) (ix2 0 k) := by
  have hi := (index_facts t).2.1
  unfold iblk
  rw [View.read_apply]
  show V m c main_arg1 _ = _
  rw [V_main_arg1]
  exact congrArg _ (Ix.two (by show win0_1.index t (0 : Fin 2) * 1 + 1 * 0 = 0; rw [hi.1])
    (by show win0_1.index t (1 : Fin 2) * 2048 + 1 * k.val = k.val; rw [hi.2]; omega))

/-- The gate weights of the point's 512 hidden units. -/
theorem iblk_wg (k : Fin 2048) (q : Fin 512) :
    (iblk m c 2 t : Vec Ideal S2048x512 .bf16) (ix2 k q)
      = m ((c : Thread nD τ).loc main_arg2) (ix2 k ⟨512 * (t.val % 11) + q.val, by omega⟩) := by
  have hi := (index_facts t).2.2.1
  unfold iblk
  rw [View.read_apply]
  show V m c main_arg2 _ = _
  rw [V_main_arg2]
  exact congrArg _ (Ix.two (by show win0_2.index t (0 : Fin 2) * 2048 + 1 * k.val = k.val; rw [hi.1]; omega)
    (by show win0_2.index t (1 : Fin 2) * 512 + 1 * q.val = 512 * (t.val % 11) + q.val; rw [hi.2]; omega))

/-- The up weights of the same hidden units. -/
theorem iblk_wu (k : Fin 2048) (q : Fin 512) :
    (iblk m c 3 t : Vec Ideal S2048x512 .bf16) (ix2 k q)
      = m ((c : Thread nD τ).loc main_arg3) (ix2 k ⟨512 * (t.val % 11) + q.val, by omega⟩) := by
  have hi := (index_facts t).2.2.2.1
  unfold iblk
  rw [View.read_apply]
  show V m c main_arg3 _ = _
  rw [V_main_arg3]
  exact congrArg _ (Ix.two (by show win0_3.index t (0 : Fin 2) * 2048 + 1 * k.val = k.val; rw [hi.1]; omega)
    (by show win0_3.index t (1 : Fin 2) * 512 + 1 * q.val = 512 * (t.val % 11) + q.val; rw [hi.2]; omega))

/-- Their down weights. -/
theorem iblk_wd (q : Fin 512) (l : Fin 2048) :
    (iblk m c 4 t : Vec Ideal S512x2048 .bf16) (ix2 q l)
      = m ((c : Thread nD τ).loc main_arg4) (ix2 ⟨512 * (t.val % 11) + q.val, by omega⟩ l) := by
  have hi := (index_facts t).2.2.2.2
  unfold iblk
  rw [View.read_apply]
  show V m c main_arg4 _ = _
  rw [V_main_arg4]
  exact congrArg _ (Ix.two (by show win0_4.index t (0 : Fin 2) * 512 + 1 * q.val = 512 * (t.val % 11) + q.val; rw [hi.1]; omega)
    (by show win0_4.index t (1 : Fin 2) * 2048 + 1 * l.val = l.val; rw [hi.2]; omega))

end Cert.Mid

end
-- ==== Proof.MidCases.lean ====
/-
  The feed-forward call without the final norm (every one but the last): what its two kinds of grid point leave in the output block
  and in the carried normed block.
-/
module

public import proofs.«01_k».proof.Proof.Gen.Kernel2Ideal.Value
public import Idealize.ShloMosaic.Lib.Pipeline.Value

@[expose] public section

noncomputable section

namespace Cert.Mid

open Idealize.ShloMosaic Idealize.ShloMosaic.TcCoe Idealize.SL.Sem
open Cert.Kernel2Ideal Cert.Kernel2Ideal.Gen

variable {F : FTy → Type} [FloatOps F]

theorem hz : (![0, 0] : Fin 2 → Nat) = fun _ => 0 := funext fun a => by fin_cases a <;> rfl

section Cases

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1x2048 .f32) (h7 : a7.IsWhole)
  (a8 : Memref sig .tc .vmem S1024x2048 .f32) (h8 : a8.IsWhole) (a9 : Memref sig .tc .vmem S1024x2048 .bf16) (h9 : a9.IsWhole)
  (x0 : Vec F S1024x2048 .f32) (x1 : Vec F S1x2048 .f32) (x2 x3 : Vec F S2048x512 .bf16) (x4 : Vec F S512x2048 .bf16)
  (x5 : Vec F S1x2048 .f32) (xo : Vec F S1024x2048 .f32) (xs : Vec F S1024x2048 .bf16)

/-- A row block's first point carries its input block, normed. -/
theorem scr_A (hc0 : cond0_0 i) :
    sout0_A_0 c i a2 h2 a3 h3 a4 h4 a5 h5 a6 h6 a7 h7 a8 h8 a9 h9 hc0 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 x0 x1 x2 x3 x4 x5)]
  unfold kernelRun0_A
  dsimp only
  sl_unfold_words
  rw [View.canon_unit_zero hz]
  simp only [View.readAt_eq_ld, h2.read_unread, h3.read_unread, View.ld_unit_zero (S := S1024x2048) hz,
    View.ld_unit_zero (S := S1x2048) hz]

/-- Its output block is the input block plus the first hidden block's contribution. -/
theorem out_A (hc0 : cond0_0 i) :
    out0_A_6 c i a2 h2 a3 h3 a4 h4 a5 h5 a6 h6 a7 h7 a8 h8 a9 h9 hc0 x0 x1 x2 x3 x4 x5
      = k0_pay2 (k0_pay1 x0 x1) x2 x3 x0 x4 := by
  unfold out0_A_6
  rw [View.read_writes_eq_canon _ _ _ (cover0_A_6 c i a2 h2 a3 h3 a4 h4 a5 h5 a6 h6 a7 h7 a8 h8 a9 h9 hc0 x0 x1 x2 x3 x4 x5)]
  unfold kernelRun0_A
  dsimp only
  sl_unfold_words
  rw [View.canon_cons_unit_zero (S := S1024x2048) hz]
  simp only [View.readAt_eq_ld, h2.read_unread, h3.read_unread, h4.read_unread, h5.read_unread, h6.read_unread,
    View.readCov_unit_zero (S := S1024x2048) _ hz,
    View.ld_unit_zero (S := S1024x2048) hz, View.ld_unit_zero (S := S1x2048) hz, View.ld_unit_zero (S := S2048x512) hz,
    View.ld_unit_zero (S := S512x2048) hz]

/-- At every other point the output block gains the contribution computed from the carried block. -/
theorem out_B (hc0 : ¬cond0_0 i) :
    out0_B_6 c i a2 h2 a3 h3 a4 h4 a5 h5 a6 h6 a7 h7 a8 h8 a9 h9 hc0 x0 x1 x2 x3 x4 x5 xo xs
      = k0_pay2 xs x2 x3 xo x4 := by
  unfold out0_B_6
  rw [View.read_writes_eq_canon _ _ _ (cover0_B_6 c i a2 h2 a3 h3 a4 h4 a5 h5 a6 h6 a7 h7 a8 h8 a9 h9 hc0 x0 x1 x2 x3 x4 x5 xo xs)]
  unfold kernelRun0_B
  dsimp only
  sl_unfold_words
  rw [View.canon_unit_zero (S := S1024x2048) hz]
  simp only [View.readAt_eq_ld, h4.read_unread, h5.read_unread, h6.read_unread, h8.read_unread, h9.read_unread,
    View.ld_unit_zero (S := S1024x2048) hz, View.ld_unit_zero (S := S2048x512) hz, View.ld_unit_zero (S := S512x2048) hz]

end Cases

end Cert.Mid

end
-- ==== Proof.MidFold.lean ====
/-
  The feed-forward call without the final norm, element by element: its stored values are those of the call with it, so the same
  induction on the grid point ends at the half-step output; and the reference's half-step output is the same sum.
-/
module

public import proofs.«01_k».proof.Proof.MidBlocks
public import proofs.«01_k».proof.Proof.MidCases
public import proofs.«01_k».proof.Proof.FfnFold
public import proofs.«01_k».proof.Proof.FfnRef
public import proofs.«01_k».proof.Proof.Gen.Reference2Ideal.Read

@[expose] public section

noncomputable section

namespace Cert.Mid

open Idealize.ShloMosaic Idealize.ShloMosaic.TcCoe Idealize.SL.Sem
open Cert.Kernel2Ideal Cert.Kernel2Ideal.Gen
open Cert.Ffn (rms stepOut rowOf gainOf partialOut_add partialOut_zero)
open scoped BigOperators

variable (m : (ℓ : Loc nD τ sig) → Buf (Elt Ideal) ℓ) (c : Dev nD)

/-- The launch's arguments. -/
abbrev argH : (⟨2, ![16384, 2048]⟩ : Shape).Idx → EReal := m ((c : Thread nD τ).loc main_arg0)
abbrev argG : (⟨2, ![1, 2048]⟩ : Shape).Idx → EReal := m ((c : Thread nD τ).loc main_arg1)
abbrev argA : (⟨2, ![2048, 5632]⟩ : Shape).Idx → EReal := m ((c : Thread nD τ).loc main_arg2)
abbrev argB : (⟨2, ![2048, 5632]⟩ : Shape).Idx → EReal := m ((c : Thread nD τ).loc main_arg3)
abbrev argD : (⟨2, ![5632, 2048]⟩ : Shape).Idx → EReal := m ((c : Thread nD τ).loc main_arg4)
abbrev argF : (⟨2, ![1, 2048]⟩ : Shape).Idx → EReal := m ((c : Thread nD τ).loc main_arg5)

/-- The row of the stream that is row `r` of point `n`'s block. -/
abbrev rowAt (n : ℕ) (h : n < cfg0.N) (r : Fin 1024) : Fin 16384 :=
  ⟨1024 * (n / 11) + r.val, by have := point_lt ⟨n, h⟩; dsimp only at this; omega⟩

theorem norm_at (t : Fin cfg0.N) (r : Fin 1024) (l : Fin 2048) :
    k0_pay1 (F := Ideal) (iblk m c 0 t) (iblk m c 1 t) (ix2 r l) = rms (rowOf (argH m c) (rowAt t.val t.isLt r)) (gainOf (argG m c)) l := by
  refine (Ffn.pay1_apply _ _ r l).trans ?_
  simp only [iblk_h, iblk_g]

/-- What the point adds to the first `J` hidden units' half step. -/
theorem add_at (t : Fin cfg0.N) (xs : Vec Ideal S1024x2048 .bf16) (xo : Vec Ideal S1024x2048 .f32) (J : ℕ) (hJ : J = 512 * (t.val % 11))
    (hs : ∀ (r : Fin 1024) (l : Fin 2048), xs (ix2 r l) = rms (rowOf (argH m c) (rowAt t.val t.isLt r)) (gainOf (argG m c)) l)
    (ho : ∀ (r : Fin 1024) (l : Fin 2048), xo (ix2 r l)
      = stepOut (argH m c) (argG m c) (argA m c) (argB m c) (argD m c) J (rowAt t.val t.isLt r) l)
    (r : Fin 1024) (l : Fin 2048) :
    k0_pay2 (F := Ideal) xs (iblk m c 2 t) (iblk m c 3 t) xo (iblk m c 4 t) (ix2 r l)
      = stepOut (argH m c) (argG m c) (argA m c) (argB m c) (argD m c) (J + 512) (rowAt t.val t.isLt r) l := by
  refine (Ffn.pay2_apply _ _ _ _ _ r l).trans ?_
  rw [ho r l]
  unfold stepOut
  rw [← partialOut_add]
  refine congrArg (fun s => _ + Ffn.cHalf * s) (Finset.sum_congr rfl fun q _ => ?_)
  unfold Ffn.hidden
  rw [dif_pos (show J + q.val < 5632 by omega)]
  subst hJ
  simp only [hs, iblk_wg, iblk_wu, iblk_wd]

/-- THE STATE after point `n`: the normed rows carried, the half step of the hidden units up to the point's block in the output. -/
theorem state_at : ∀ (n : ℕ) (h : n < cfg0.N),
    (∀ (r : Fin 1024) (l : Fin 2048), (outsAt0 m c n h).2 (ix2 r l) = rms (rowOf (argH m c) (rowAt n h r)) (gainOf (argG m c)) l)
    ∧ ∀ (r : Fin 1024) (l : Fin 2048), (outsAt0 m c n h).1 (ix2 r l)
        = stepOut (argH m c) (argG m c) (argA m c) (argB m c) (argD m c) (512 * (n % 11) + 512) (rowAt n h r) l := by
  have first : ∀ t : Fin cfg0.N, t.val % 11 = 0 →
      (∀ (r : Fin 1024) (l : Fin 2048), (outsAt0 m c t.val t.isLt).2 (ix2 r l)
        = rms (rowOf (argH m c) (rowAt t.val t.isLt r)) (gainOf (argG m c)) l)
      ∧ ∀ (r : Fin 1024) (l : Fin 2048), (outsAt0 m c t.val t.isLt).1 (ix2 r l)
        = stepOut (argH m c) (argG m c) (argA m c) (argB m c) (argD m c) (512 * (t.val % 11) + 512) (rowAt t.val t.isLt r) l := by
    intro t ht
    rw [outsAt0_A m c t ht, out_A, scr_A]
    refine ⟨fun r l => norm_at m c t r l, fun r l => ?_⟩
    rw [ht]
    refine add_at m c t _ _ 0 (by rw [ht]) (fun r l => norm_at m c t r l) (fun r l => ?_) r l
    rw [iblk_h, stepOut, partialOut_zero]
  intro n
  induction n with
  | zero => exact fun h => first ⟨0, h⟩ rfl
  | succ n ih =>
    intro h
    by_cases hA : (n + 1) % 11 = 0
    · exact first ⟨n + 1, h⟩ hA
    · obtain ⟨i1, i2⟩ := ih (Nat.lt_of_succ_lt h)
      have hrow : ∀ r : Fin 1024, rowAt n (Nat.lt_of_succ_lt h) r = rowAt (n + 1) h r := fun r =>
        Fin.ext (by show 1024 * (n / 11) + r.val = 1024 * ((n + 1) / 11) + r.val; rw [show n / 11 = (n + 1) / 11 by omega])
      have hJ : 512 * (n % 11) + 512 = 512 * ((n + 1) % 11) := by omega
      simp only [hrow] at i1 i2
      have e := outsAt0_B m c ⟨n + 1, h⟩ hA
      dsimp only at e
      rw [e, out_B]
      refine ⟨i1, fun r l => ?_⟩
      refine (add_at m c ⟨n + 1, h⟩ _ _ _ hJ i1 i2 r l).trans ?_
      rw [hJ]

/-- THE RESULT at an index: the row plus half of its feed-forward. -/
theorem result_apply (R : Fin 16384) (l : Fin 2048) :
    Value.G6 m c (ix2 R l) = stepOut (argH m c) (argG m c) (argA m c) (argB m c) (argD m c) 5632 R l := by
  have hN : cfg0.N = 176 := N_0
  have hp : Value.pt6Of (ix2 R l) = 11 * (R.val / 1024) + 10 := by
    show 11 * (1 * (R.val / 1024 - 0) + 1 * (l.val / 2048 - 0)) + 10 = _; omega
  have hlt : Value.pt6Of (ix2 R l) < cfg0.N := by rw [hp, hN]; omega
  unfold Value.G6
  rw [dif_pos hlt, ← Value.outsAt0_sweep m c _ hlt]
  have hl : Value.loc6Of (ix2 R l) = ix2 ⟨R.val % 1024, Nat.mod_lt _ (by decide)⟩ l :=
    Ix.two rfl (by show l.val % 2048 = l.val; omega)
  rw [hl, (state_at m c _ hlt).2, show 512 * (Value.pt6Of (ix2 R l) % 11) + 512 = 5632 by rw [hp]; omega]
  refine congrArg (fun R' => stepOut _ _ _ _ _ 5632 R' l) (Fin.ext ?_)
  show 1024 * (Value.pt6Of (ix2 R l) / 11) + R.val % 1024 = R.val
  rw [hp]; omega

/-- The reference's result is the kernel's, element by element. -/
theorem value_eq :
    Cert.Reference2Ideal.Read.val_main_v22 (F := Ideal) (argH m c) (argG m c) (argA m c) (argB m c) (argD m c)
      = Value.G6 m c := by
  funext i
  obtain ⟨R, l, rfl⟩ : ∃ (R : Fin 16384) (l : Fin 2048), i = ix2 R l := ⟨i 0, i 1, Ix.eq_two i⟩
  exact (Ffn.Ref.step_apply (argH m c) (argG m c) (argA m c) (argB m c) (argD m c) R l).trans (result_apply m c R l).symm

end Cert.Mid

end
-- ==== Proof.InProj.lean ====
/-
  The mixer's input projection, element by element: a row block's first point norms the block and carries it, every point multiplies
  the carried rows by its 1280 columns; so each element of the result is the normed row times the weight's column.
-/
module

public import proofs.«01_k».proof.Proof.Gen.Kernel3Ideal.Value
public import proofs.«01_k».proof.Proof.Gen.Reference3Ideal.Read
public import proofs.«01_k».proof.Proof.FfnPay
public import proofs.«01_k».proof.Proof.FfnRef
public import proofs.«01_k».proof.Proof.Ix
public import Idealize.ShloMosaic.Lib.Pipeline.Value

@[expose] public section

noncomputable section

namespace Cert.InProj

open Idealize.ShloMosaic Idealize.ShloMosaic.TcCoe Idealize.SL.Sem
open Cert.Kernel3Ideal Cert.Kernel3Ideal.Gen
open Cert.Ffn (rms)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F] (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S1x2048x1280 .bf16) (h4 : a4.IsWhole) (a5 : Memref sig .tc .vmem S1024x1280 .f32) (h5 : a5.IsWhole)
  (a6 : Memref sig .tc .vmem S1024x2048 .bf16) (h6 : a6.IsWhole)
  (x0 : Vec F S1024x2048 .f32) (x1 : Vec F S1x2048 .f32) (x2 : Vec F S1x2048x1280 .bf16) (xs : Vec F S1024x2048 .bf16)

/-- The first point of a row block carries the normed rows. -/
theorem scr_A (hc0 : cond0_0 i) :
    sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero hz2]
  simp only [View.readAt_eq_ld, h2.read_unread, h3.read_unread, View.ld_unit_zero (S := S1024x2048) hz2,
    View.ld_unit_zero (S := S1x2048) hz2]

/-- It writes their product with its columns. -/
theorem out_A (hc0 : cond0_0 i) :
    out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz2]
  simp only [View.readAt_eq_ld, h2.read_unread, h3.read_unread, h4.read_unread, View.readCov_unit_zero (S := S1024x2048) _ hz2,
    View.ld_unit_zero (S := S1024x2048) hz2, View.ld_unit_zero (S := S1x2048) hz2, View.ld_unit_zero (S := S1x2048x1280) hz3]

/-- Every other point writes the product of the carried rows. -/
theorem out_B (hc0 : ¬cond0_0 i) :
    out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero hz2]
  simp only [View.readAt_eq_ld, h4.read_unread, h6.read_unread,
    View.ld_unit_zero (S := S1024x2048) hz2, View.ld_unit_zero (S := S1x2048x1280) hz3]

end Cases

/-- What a point writes, at an index: the carried row times the column. -/
theorem pay2_apply (n : Vec Ideal S1024x2048 .bf16) (w : Vec Ideal S1x2048x1280 .bf16) (r : Fin 1024) (l : Fin 1280) :
    k0_pay2 n w (ix2 r l) = ∑ k : Fin 2048, n (ix2 r k) * w (ix3 0 k l) := by
  pointwise [k0_pay2]

variable (m : (ℓ : Loc nD τ sig) → Buf (Elt Ideal) ℓ) (c : Dev nD)

/-- The launch's arguments. -/
abbrev argH : (⟨2, ![16384, 2048]⟩ : Shape).Idx → EReal := m ((c : Thread nD τ).loc main_arg0)
abbrev argG : (⟨2, ![1, 2048]⟩ : Shape).Idx → EReal := m ((c : Thread nD τ).loc main_arg1)
abbrev argW : (⟨3, ![2, 2048, 6400]⟩ : Shape).Idx → EReal := m ((c : Thread nD τ).loc main_arg2)

section Blocks

variable (t : Fin cfg0.N)

/-- The printed index maps: the row block is the point divided by 5, the column block its remainder. -/
theorem index_facts : ∀ t : Fin cfg0.N,
    (win0_0.index t (0 : Fin 2) = t.val / 5 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 5) :=
  (by decide +kernel : ∀ t : Fin grid0.N, _)

theorem point_lt : t.val < 80 := lt_of_lt_of_eq t.isLt N_0

theorem iblk_h (r : Fin 1024) (k : Fin 2048) :
    (iblk m c 0 t : Vec Ideal S1024x2048 .f32) (ix2 r k)
      = argH m c (ix2 ⟨1024 * (t.val / 5) + r.val, by have := point_lt t; omega⟩ k) := by
  have hi := (index_facts t).1
  unfold iblk
  rw [View.read_apply]
  show V m c main_arg0 _ = _
  rw [V_main_arg0]
  exact congrArg _ (Ix.two (by show win0_0.index t (0 : Fin 2) * 1024 + 1 * r.val = 1024 * (t.val / 5) + r.val; rw [hi.1]; omega)
    (by show win0_0.index t (1 : Fin 2) * 2048 + 1 * k.val = k.val; rw [hi.2]; omega))

theorem iblk_g (k : Fin 2048) :
    (iblk m c 1 t : Vec Ideal S1x2048 .f32) (ix2 0 k) = argG m c (ix2 0 k) := by
  have hi := (index_facts t).2.1
  unfold iblk
  rw [View.read_apply]
  show V m c main_arg1 _ = _
  rw [V_main_arg1]
  exact congrArg _ (Ix.two (by show win0_1.index t (0 : Fin 2) * 1 + 1 * 0 = 0; rw [hi.1])
    (by show win0_1.index t (1 : Fin 2) * 2048 + 1 * k.val = k.val; rw [hi.2]; omega))

theorem iblk_w (k : Fin 2048) (l : Fin 1280) :
    (iblk m c 2 t : Vec Ideal S1x2048x1280 .bf16) (ix3 0 k l) = argW m c (ix3 0 k ⟨1280 * (t.val % 5) + l.val, by omega⟩) := by
  have hi := (index_facts t).2.2
  unfold iblk
  rw [View.read_apply]
  show V m c main_arg2 _ = _
  rw [V_main_arg2]
  exact congrArg _ (Ix.three (by show win0_2.index t (0 : Fin 3) * 1 + 1 * 0 = 0; rw [hi.1])
    (by show win0_2.index t (1 : Fin 3) * 2048 + 1 * k.val = k.val; rw [hi.2.1]; omega)
    (by show win0_2.index t (2 : Fin 3) * 1280 + 1 * l.val = 1280 * (t.val % 5) + l.val; rw [hi.2.2]; omega))

end Blocks

/-- The normed row of the residual stream. -/
abbrev normed (R : Fin 16384) : Fin 2048 → EReal := rms (fun k => argH m c (ix2 R k)) (fun k => argG m c (ix2 0 k))

/-- The row of the stream that is row `r` of point `n`'s block. -/
abbrev rowAt (n : ℕ) (h : n < cfg0.N) (r : Fin 1024) : Fin 16384 :=
  ⟨1024 * (n / 5) + r.val, by have := point_lt ⟨n, h⟩; dsimp only at this; omega⟩

theorem norm_at (t : Fin cfg0.N) (r : Fin 1024) (l : Fin 2048) :
    k0_pay1 (F := Ideal) (iblk m c 0 t) (iblk m c 1 t) (ix2 r l) = normed m c (rowAt t.val t.isLt r) l := by
  refine (Ffn.pay1_apply _ _ r l).trans ?_
  simp only [iblk_h, iblk_g]

/-- THE STATE after point `n`: the normed rows carried, their products with the point's columns written. -/
theorem state_at : ∀ (n : ℕ) (h : n < cfg0.N),
    (∀ (r : Fin 1024) (l : Fin 2048), (outsAt0 m c n h).2 (ix2 r l) = normed m c (rowAt n h r) l)
    ∧ ∀ (r : Fin 1024) (l : Fin 1280), (outsAt0 m c n h).1 (ix2 r l)
        = ∑ k : Fin 2048, normed m c (rowAt n h r) k * argW m c (ix3 0 k ⟨1280 * (n % 5) + l.val, by omega⟩) := by
  have first : ∀ t : Fin cfg0.N, t.val % 5 = 0 →
      (∀ (r : Fin 1024) (l : Fin 2048), (outsAt0 m c t.val t.isLt).2 (ix2 r l) = normed m c (rowAt t.val t.isLt r) l)
      ∧ ∀ (r : Fin 1024) (l : Fin 1280), (outsAt0 m c t.val t.isLt).1 (ix2 r l)
        = ∑ k : Fin 2048, normed m c (rowAt t.val t.isLt r) k * argW m c (ix3 0 k ⟨1280 * (t.val % 5) + l.val, by omega⟩) := by
    intro t ht
    rw [outsAt0_A m c t ht, out_A, scr_A]
    refine ⟨fun r l => norm_at m c t r l, fun r l => ?_⟩
    refine (pay2_apply _ _ r l).trans ?_
    simp only [norm_at, iblk_w]
  intro n
  induction n with
  | zero => exact fun h => first ⟨0, h⟩ rfl
  | succ n ih =>
    intro h
    by_cases hA : (n + 1) % 5 = 0
    · exact first ⟨n + 1, h⟩ hA
    · obtain ⟨i1, -⟩ := ih (Nat.lt_of_succ_lt h)
      have hrow : ∀ r : Fin 1024, rowAt n (Nat.lt_of_succ_lt h) r = rowAt (n + 1) h r := fun r =>
        Fin.ext (by show 1024 * (n / 5) + r.val = 1024 * ((n + 1) / 5) + r.val; rw [show n / 5 = (n + 1) / 5 by omega])
      simp only [hrow] at i1
      have e := outsAt0_B m c ⟨n + 1, h⟩ hA
      dsimp only at e
      rw [e, out_B]
      refine ⟨i1, fun r l => ?_⟩
      refine (pay2_apply _ _ r l).trans ?_
      refine Finset.sum_congr rfl fun k _ => ?_
      rw [iblk_w]
      exact congrArg (· * _) (i1 r k)

/-- THE RESULT at an index: the normed row times the weight's column. -/
theorem result_apply (R : Fin 16384) (l : Fin 6400) :
    Value.G3 m c (ix2 R l) = ∑ k : Fin 2048, normed m c R k * argW m c (ix3 0 k l) := by
  have hN : cfg0.N = 80 := N_0
  have hp : Value.pt3Of (ix2 R l) = 5 * (R.val / 1024) + l.val / 1280 := by
    show 5 * (R.val / 1024 - 0) + 1 * (l.val / 1280 - 0) = _; omega
  have hlt : Value.pt3Of (ix2 R l) < cfg0.N := by rw [hp, hN]; omega
  unfold Value.G3
  rw [dif_pos hlt, ← Value.outsAt0_sweep m c _ hlt]
  have hl : Value.loc3Of (ix2 R l) = ix2 ⟨R.val % 1024, Nat.mod_lt _ (by decide)⟩ ⟨l.val % 1280, Nat.mod_lt _ (by decide)⟩ :=
    Ix.two rfl rfl
  rw [hl, (state_at m c _ hlt).2]
  have hR : rowAt (Value.pt3Of (ix2 R l)) hlt ⟨R.val % 1024, Nat.mod_lt _ (by decide)⟩ = R := Fin.ext (by
    show 1024 * (Value.pt3Of (ix2 R l) / 5) + R.val % 1024 = R.val
    rw [hp]; omega)
  refine Finset.sum_congr (M := EReal) rfl fun k _ => ?_
  rw [hR]
  refine congrArg (fun j => _ * argW m c (ix3 0 k j)) (Fin.ext ?_)
  show 1280 * (Value.pt3Of (ix2 R l) % 5) + l.val % 1280 = l.val
  rw [hp]; omega

/-- The reference's projection at an index. -/
theorem ref_apply (H : FVec Ideal S16384x2048 .f32) (G : FVec Ideal S1x2048 .f32) (W : FVec Ideal S2x2048x6400 .bf16)
    (R : Fin 16384) (l : Fin 6400) :
    Cert.Reference3Ideal.Read.val_main_v15 (F := Ideal) H G W (ix2 R l)
      = ∑ k : Fin 2048, rms (fun k => H (ix2 R k)) (fun k => G (ix2 0 k)) k * W (ix3 0 k l) := by
  have hn : ∀ k : Fin 2048, Cert.Reference3Ideal.Read.val_main_v11 (F := Ideal) H G (ix2 R k)
      = rms (fun k => H (ix2 R k)) (fun k => G (ix2 0 k)) k := fun k => Ffn.Ref.normed_apply H G R k
  pointwise [Cert.Reference3Ideal.Read.val_main_v15, Cert.Reference3Ideal.Read.val_main_v14, Cert.Reference3Ideal.Read.val_main_v13,
    Cert.Reference3Ideal.Read.val_main_v12, hn]

/-- The reference's result is the kernel's, element by element. -/
theorem value_eq :
    Cert.Reference3Ideal.Read.val_main_v15 (F := Ideal) (argH m c) (argG m c) (argW m c) = Value.G3 m c := by
  funext i
  obtain ⟨R, l, rfl⟩ : ∃ (R : Fin 16384) (l : Fin 6400), i = ix2 R l := ⟨i 0, i 1, Ix.eq_two i⟩
  exact (ref_apply (argH m c) (argG m c) (argW m c) R l).trans (result_apply m c R l).symm

end Cert.InProj

end
-- ==== Proof.OutProj.lean ====
/-
  The mixer's output projection, element by element: each point adds to its 512 rows the two products, of the attention's half and of
  the recurrence's half of the mixed width, and writes them once; the reference's one product over the joined width is their sum.
-/
module

public import proofs.«01_k».proof.Proof.Gen.Kernel4Ideal.Value
public import proofs.«01_k».proof.Proof.Gen.Reference4Ideal.Read
public import proofs.«01_k».proof.Proof.Ix
public import Idealize.ShloMosaic.Lib.Pipeline.Value

@[expose] public section

noncomputable section

namespace Cert.OutProj

open Idealize.ShloMosaic Idealize.ShloMosaic.TcCoe Idealize.SL.Sem
open Cert.Kernel4Ideal Cert.Kernel4Ideal.Gen
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes, at an index. -/
theorem pay1_apply (a : Vec Ideal S512x1024 .bf16) (wa : Vec Ideal S1x1024x2048 .bf16) (b : Vec Ideal S512x1024 .bf16)
    (wb : Vec Ideal S1x1024x2048 .bf16) (h : Vec Ideal S512x2048 .f32) (r : Fin 512) (l : Fin 2048) :
    k0_pay1 a wa b wb h (ix2 r l)
      = h (ix2 r l) + ((∑ k : Fin 1024, a (ix2 r k) * wa (ix3 0 k l)) + ∑ k : Fin 1024, b (ix2 r k) * wb (ix3 0 k l)) := by
  pointwise [k0_pay1]

/-- The output block of a point, from its input blocks. -/
theorem out_apply (x0 : Vec Ideal S512x2048 .f32) (x1 x2 : Vec Ideal S512x1024 .bf16) (x3 x4 : Vec Ideal S1x1024x2048 .bf16) :
    out0_5 x0 x1 x2 x3 x4 = k0_pay1 x1 x3 x2 x4 x0 := by
  unfold out0_5
  rw [View.canon_unit_zero hz2]
  simp only [View.ld_unit_zero (S := S512x2048) hz2, View.ld_unit_zero (S := S512x1024) hz2, View.ld_unit_zero (S := S1x1024x2048) hz3]

variable (m : (ℓ : Loc nD τ sig) → Buf (Elt Ideal) ℓ) (c : Dev nD)

/-- The launch's arguments. -/
abbrev argH : (⟨2, ![16384, 2048]⟩ : Shape).Idx → EReal := m ((c : Thread nD τ).loc main_arg0)
abbrev argA : (⟨2, ![16384, 1024]⟩ : Shape).Idx → EReal := m ((c : Thread nD τ).loc main_arg1)
abbrev argB : (⟨2, ![16384, 1024]⟩ : Shape).Idx → EReal := m ((c : Thread nD τ).loc main_arg2)
abbrev argW : (⟨3, ![2, 2048, 2048]⟩ : Shape).Idx → EReal := m ((c : Thread nD τ).loc main_arg3)

section Blocks

variable (t : Fin cfg0.N)

/-- The printed index maps: the row block is the point; the two weight blocks are the two halves of the mixed width. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 1 ∧ win0_4.index t (2 : Fin 3) = 0)
    ∧ (win0_5.index t (0 : Fin 2) = t.val ∧ win0_5.index t (1 : Fin 2) = 0) :=
  (by decide +kernel : ∀ t : Fin grid0.N, _)

theorem point_lt : t.val < 32 := lt_of_lt_of_eq t.isLt N_0

/-- The row of the stream that is row `r` of the point's block. -/
abbrev rowAt (r : Fin 512) : Fin 16384 := ⟨512 * t.val + r.val, by have := point_lt t; omega⟩

theorem iblk_h (r : Fin 512) (k : Fin 2048) :
    (iblk m c 0 t : Vec Ideal S512x2048 .f32) (ix2 r k) = argH m c (ix2 (rowAt t r) k) := by
  have hi := (index_facts t).1
  unfold iblk
  rw [View.read_apply]
  show V m c main_arg0 _ = _
  rw [V_main_arg0]
  exact congrArg _ (Ix.two (by show win0_0.index t (0 : Fin 2) * 512 + 1 * r.val = 512 * t.val + r.val; rw [hi.1]; omega)
    (by show win0_0.index t (1 : Fin 2) * 2048 + 1 * k.val = k.val; rw [hi.2]; omega))

theorem iblk_a (r : Fin 512) (k : Fin 1024) :
    (iblk m c 1 t : Vec Ideal S512x1024 .bf16) (ix2 r k) = argA m c (ix2 (rowAt t r) k) := by
  have hi := (index_facts t).2.1
  unfold iblk
  rw [View.read_apply]
  show V m c main_arg1 _ = _
  rw [V_main_arg1]
  exact congrArg _ (Ix.two (by show win0_1.index t (0 : Fin 2) * 512 + 1 * r.val = 512 * t.val + r.val; rw [hi.1]; omega)
    (by show win0_1.index t (1 : Fin 2) * 1024 + 1 * k.val = k.val; rw [hi.2]; omega))

theorem iblk_b (r : Fin 512) (k : Fin 1024) :
    (iblk m c 2 t : Vec Ideal S512x1024 .bf16) (ix2 r k) = argB m c (ix2 (rowAt t r) k) := by
  have hi := (index_facts t).2.2.1
  unfold iblk
  rw [View.read_apply]
  show V m c main_arg2 _ = _
  rw [V_main_arg2]
  exact congrArg _ (Ix.two (by show win0_2.index t (0 : Fin 2) * 512 + 1 * r.val = 512 * t.val + r.val; rw [hi.1]; omega)
    (by show win0_2.index t (1 : Fin 2) * 1024 + 1 * k.val = k.val; rw [hi.2]; omega))

theorem iblk_wa (k : Fin 1024) (l : Fin 2048) :
    (iblk m c 3 t : Vec Ideal S1x1024x2048 .bf16) (ix3 0 k l) = argW m c (ix3 0 (Fin.castAdd 1024 k) l) := by
  have hi := (index_facts t).2.2.2.1
  unfold iblk
  rw [View.read_apply]
  show V m c main_arg3 _ = _
  rw [V_main_arg3]
  exact congrArg _ (Ix.three (by show win0_3.index t (0 : Fin 3) * 1 + 1 * 0 = 0; rw [hi.1])
    (by show win0_3.index t (1 : Fin 3) * 1024 + 1 * k.val = k.val; rw [hi.2.1]; omega)
    (by show win0_3.index t (2 : Fin 3) * 2048 + 1 * l.val = l.val; rw [hi.2.2]; omega))

theorem iblk_wb (k : Fin 1024) (l : Fin 2048) :
    (iblk m c 4 t : Vec Ideal S1x1024x2048 .bf16) (ix3 0 k l) = argW m c (ix3 0 (Fin.natAdd 1024 k) l) := by
  have hi := (index_facts t).2.2.2.2.1
  unfold iblk
  rw [View.read_apply]
  show V m c main_arg3 _ = _
  rw [V_main_arg3]
  exact congrArg _ (Ix.three (by show win0_4.index t (0 : Fin 3) * 1 + 1 * 0 = 0; rw [hi.1])
    (by show win0_4.index t (1 : Fin 3) * 1024 + 1 * k.val = 1024 + k.val; rw [hi.2.1]; omega)
    (by show win0_4.index t (2 : Fin 3) * 2048 + 1 * l.val = l.val; rw [hi.2.2]; omega))

end Blocks

/-- THE RESULT at an index: the stream plus the two halves' products. -/
theorem result_apply (R : Fin 16384) (l : Fin 2048) :
    (dats m 0 c).arrAt 5 cfg0.N (ix2 R l)
      = argH m c (ix2 R l) + ((∑ k : Fin 1024, argA m c (ix2 R k) * argW m c (ix3 0 (Fin.castAdd 1024 k) l))
          + ∑ k : Fin 1024, argB m c (ix2 R k) * argW m c (ix3 0 (Fin.natAdd 1024 k) l)) := by
  have hN : cfg0.N = 32 := N_0
  let t : Fin cfg0.N := ⟨R.val / 512, by omega⟩
  let r : Fin 512 := ⟨R.val % 512, Nat.mod_lt _ (by decide)⟩
  have hR : rowAt t r = R := Fin.ext (by show 512 * (R.val / 512) + R.val % 512 = R.val; omega)
  have h := congrFun (Value.blocks5 m c t (flush0_5 t)) (ix2 r l)
  rw [View.read_apply, Value.flushed5, out_apply] at h
  have hi := (index_facts t).2.2.2.2.2
  have he : ∀ j : (⟨2, ![16384, 2048]⟩ : Shape).Idx, (j 0).val = win0_5.index t (0 : Fin 2) * 512 + 1 * r.val →
      (j 1).val = win0_5.index t (1 : Fin 2) * 2048 + 1 * l.val → j = ix2 R l := fun j h0 h1 => Ix.two
    (by rw [h0, hi.1]; show R.val / 512 * 512 + 1 * (R.val % 512) = R.val; omega)
    (by rw [h1, hi.2]; omega)
  have hL : (dats m 0 c).arrAt 5 cfg0.N (ix2 R l) = k0_pay1 (F := Ideal) (iblk m c 1 t) (iblk m c 3 t) (iblk m c 2 t)
      (iblk m c 4 t) (iblk m c 0 t) (ix2 r l) := by
    refine Eq.trans ?_ h
    exact congrArg _ (he _ rfl rfl).symm
  rw [hL]
  refine (pay1_apply _ _ _ _ _ r l).trans ?_
  simp only [iblk_h, iblk_a, iblk_b, iblk_wa, iblk_wb, hR]

/-- The reference's joined halves at an index. -/
theorem joined_left (A B : FVec Ideal S16384x1024 .bf16) (R : Fin 16384) (k : Fin 1024) :
    Cert.Reference4Ideal.Read.val_main_v2 (F := Ideal) A B (ix2 R (Fin.castAdd 1024 k)) = A (ix2 R k) := by
  pointwise [Cert.Reference4Ideal.Read.val_main_v2, Cert.Reference4Ideal.Read.val_main_v0, Cert.Reference4Ideal.Read.val_main_v1]
  exact dif_pos k.isLt

theorem joined_right (A B : FVec Ideal S16384x1024 .bf16) (R : Fin 16384) (k : Fin 1024) :
    Cert.Reference4Ideal.Read.val_main_v2 (F := Ideal) A B (ix2 R (Fin.natAdd 1024 k)) = B (ix2 R k) := by
  pointwise [Cert.Reference4Ideal.Read.val_main_v2, Cert.Reference4Ideal.Read.val_main_v0, Cert.Reference4Ideal.Read.val_main_v1]
  rw [dif_neg (by show ¬(1024 + k.val < 1024); omega)]
  exact congrArg B (Ix.two rfl (Nat.add_sub_cancel_left 1024 k.val))

/-- The reference's result at an index: its one product, split at the seam of the joined width. -/
theorem ref_apply (H : FVec Ideal S16384x2048 .f32) (A B : FVec Ideal S16384x1024 .bf16) (W : FVec Ideal S2x2048x2048 .bf16)
    (R : Fin 16384) (l : Fin 2048) :
    Cert.Reference4Ideal.Read.val_main_v7 (F := Ideal) H A B W (ix2 R l)
      = H (ix2 R l) + ((∑ k : Fin 1024, A (ix2 R k) * W (ix3 0 (Fin.castAdd 1024 k) l))
          + ∑ k : Fin 1024, B (ix2 R k) * W (ix3 0 (Fin.natAdd 1024 k) l)) := by
  have h : Cert.Reference4Ideal.Read.val_main_v7 (F := Ideal) H A B W (ix2 R l)
      = H (ix2 R l) + ∑ k : Fin (1024 + 1024), Cert.Reference4Ideal.Read.val_main_v2 (F := Ideal) A B (ix2 R k) * W (ix3 0 k l) := by
    pointwise [Cert.Reference4Ideal.Read.val_main_v7, Cert.Reference4Ideal.Read.val_main_v6, Cert.Reference4Ideal.Read.val_main_v5,
      Cert.Reference4Ideal.Read.val_main_v4, Cert.Reference4Ideal.Read.val_main_v3]
  rw [h, Fin.sum_univ_add]
  simp only [joined_left, joined_right]

/-- The reference's result is the kernel's, element by element. -/
theorem value_eq :
    Cert.Reference4Ideal.Read.val_main_v7 (F := Ideal) (argH m c) (argA m c) (argB m c) (argW m c)
      = (dats m 0 c).arrAt 5 cfg0.N := by
  funext i
  obtain ⟨R, l, rfl⟩ : ∃ (R : Fin 16384) (l : Fin 2048), i = ix2 R l := ⟨i 0, i 1, Ix.eq_two i⟩
  exact (ref_apply (argH m c) (argA m c) (argB m c) (argW m c) R l).trans (result_apply m c R l).symm

end Cert.OutProj

end
-- ==== Proof.PoolMath.lean ====
/-
  The mathematics of the pooling mixer over the extended reals: which values are numbers, the running sum, and the trailing sum of a
  window, which is a difference of two running sums wherever the values are numbers.
-/
module

public import proofs.«01_k».proof.Proof.FfnMath
public import Mathlib.Algebra.BigOperators.Intervals
public import Mathlib.Data.EReal.Operations

@[expose] public section

noncomputable section

namespace Cert.Pool

open Idealize.ShloMosaic
open Cert.Ffn (rms cMean cEps)
open scoped BigOperators

/-- An extended real that is a number. -/
def Num (x : EReal) : Prop := ∃ r : ℝ, x = r

theorem Num.add {x y : EReal} : Num x → Num y → Num (x + y) := fun ⟨r, hr⟩ ⟨s, hs⟩ => ⟨r + s, by rw [hr, hs, EReal.coe_add]⟩
theorem Num.mul {x y : EReal} : Num x → Num y → Num (x * y) := fun ⟨r, hr⟩ ⟨s, hs⟩ => ⟨r * s, by rw [hr, hs, EReal.coe_mul]⟩
theorem num_zero : Num 0 := ⟨0, rfl⟩

/-- A finite sum of numbers is one. -/
theorem num_sum {ι : Type*} (s : Finset ι) (f : ι → EReal) (h : ∀ i ∈ s, Num (f i)) : Num (∑ i ∈ s, f i) :=
  Finset.sum_induction f Num (fun _ _ => Num.add) num_zero h

/-- A sum of squares of numbers is a number that is not negative. -/
theorem num_squares (x : Fin 2048 → EReal) (h : ∀ k, Num (x k)) : ∃ r : ℝ, 0 ≤ r ∧ ∑ k, x k * x k = (r : EReal) :=
  Finset.sum_induction (fun k => x k * x k) (fun y => ∃ r : ℝ, 0 ≤ r ∧ y = (r : EReal))
    (fun _ _ ⟨r, h0, hr⟩ ⟨s, h1, hs⟩ => ⟨r + s, add_nonneg h0 h1, by rw [hr, hs, EReal.coe_add]⟩) ⟨0, le_rfl, rfl⟩
    (fun k _ => (h k).elim fun r hr => ⟨r * r, mul_self_nonneg r, by rw [hr, EReal.coe_mul]⟩)

theorem cMean_eq : cMean = ((2048 : ℝ) : EReal) := by
  simp [cMean, Ideal.ofBits, Ideal.ieee, -EReal.coe_mul]; norm_num

theorem cEps_pos : ∃ e : ℝ, 0 < e ∧ cEps = (e : EReal) := by
  refine ⟨8796093 * (2 : ℝ) ^ (-43 : ℤ), by positivity, ?_⟩
  simp [cEps, Ideal.ofBits, Ideal.ieee, -EReal.coe_mul]

/-- A value that is no number squares to infinity, and any square is at least zero. -/
theorem square_top {x : EReal} (h : ¬Num x) : x * x = ⊤ := by
  induction x with
  | bot => exact EReal.bot_mul_bot
  | top => exact EReal.top_mul_top
  | coe r => exact absurd ⟨r, rfl⟩ h

theorem square_nonneg (x : EReal) : 0 ≤ x * x := by
  by_cases h : Num x
  · obtain ⟨r, rfl⟩ := h
    rw [← EReal.coe_mul]
    exact_mod_cast mul_self_nonneg r
  · rw [square_top h]
    exact le_top

/-- The root-mean-square norm of any row, with a gain of numbers, is a row of numbers: what the root is taken of is positive, and where
    a value of the row is infinite the whole row becomes zero. -/
theorem num_rms (x g : Fin 2048 → EReal) (hg : ∀ k, Num (g k)) (l : Fin 2048) : Num (rms x g l) := by
  obtain ⟨e, he, hE⟩ := cEps_pos
  refine Num.mul ?_ (hg l)
  by_cases hx : ∀ k, Num (x k)
  · obtain ⟨r, h0, hr⟩ := num_squares x hx
    refine (hx l).mul ?_
    have hp : 0 < r * (1 / 2048) + e := by positivity
    rw [hr, cMean_eq, Ideal.div_coe (by norm_num), hE, ← EReal.coe_mul, ← EReal.coe_add, Ideal.rsqrt_coe, if_neg hp.not_gt, if_neg hp.ne']
    exact ⟨_, rfl⟩
  · obtain ⟨k, hk⟩ := not_forall.1 hx
    have ht : ∑ k, x k * x k = ⊤ := top_le_iff.1 (by
      rw [← square_top hk]
      exact Finset.single_le_sum (f := fun k => x k * x k) (fun k _ => square_nonneg (x k)) (Finset.mem_univ k))
    rw [ht, cMean_eq, Ideal.div_coe (by norm_num), hE, EReal.top_mul_coe_of_pos (by norm_num), EReal.top_add_coe, Ideal.rsqrt_top, mul_zero]
    exact num_zero

/-- Lane `l` of the normed row at position `s` of sequence `b` (nothing past the last position). -/
def normed (H : (⟨3, ![4, 4096, 2048]⟩ : Shape).Idx → EReal) (G : (⟨2, ![1, 2048]⟩ : Shape).Idx → EReal) (b : Fin 4) (l : Fin 2048)
    (s : ℕ) : EReal :=
  if h : s < 4096 then rms (fun k => H (ix3 b ⟨s, h⟩ k)) (fun k => G (ix2 0 k)) l else 0

theorem num_normed (H : (⟨3, ![4, 4096, 2048]⟩ : Shape).Idx → EReal) (G : (⟨2, ![1, 2048]⟩ : Shape).Idx → EReal)
    (hG : ∀ k, Num (G (ix2 0 k))) (b : Fin 4) (l : Fin 2048) (s : ℕ) : Num (normed H G b l s) := by
  unfold normed
  split
  · exact num_rms _ _ hG l
  · exact num_zero

/-- The sum of the `w` values that end at `t`, nothing before the first. -/
def trail (X : ℕ → EReal) (w t : ℕ) : EReal := ∑ d ∈ Finset.range w, if d ≤ t then X (t - d) else 0

/-- A difference of two running sums of numbers is the trailing sum between them. -/
theorem running_sub (X : ℕ → EReal) (hX : ∀ s, Num (X s)) (w t : ℕ) :
    (∑ s ∈ Finset.range (t + 1), X s) - (∑ s ∈ Finset.range (t + 1 - w), X s) = trail X w t := by
  have hsplit := Finset.sum_range_add_sum_Ico X (show t + 1 - w ≤ t + 1 by omega)
  obtain ⟨r, hr⟩ := num_sum (Finset.range (t + 1 - w)) X fun s _ => hX s
  rw [← hsplit, hr, EReal.add_sub_cancel_left]
  have hm : min w (t + 1) ≤ t + 1 := min_le_right _ _
  have h := Finset.sum_Ico_reflect X 0 hm
  rw [show t + 1 - min w (t + 1) = t + 1 - w by omega, Nat.sub_zero] at h
  rw [← h, ← Finset.range_eq_Ico]
  unfold trail
  refine Finset.sum_subset_zero_on_sdiff (Finset.range_mono (min_le_left _ _)) (fun d hd => ?_) (fun d hd => ?_)
  · rw [Finset.mem_sdiff, Finset.mem_range, Finset.mem_range] at hd
    rw [if_neg (by omega)]
  · rw [Finset.mem_range] at hd
    rw [if_pos (by omega)]

/-- The count of the positions in the window `w` that ends at `t`, as the programs' words make it. -/
abbrev count (w : BitVec 32) (t : ℕ) : EReal :=
  FloatOps.sitofp (F := Ideal) .f32 (IntOp.minsi (IntOp.addi (BitVec.ofNat 32 t) 1#32) w)

/-- Lane `x` of the channel group that starts at lane `o`. -/
abbrev lane (o : ℕ) (ho : o ≤ 1536) (x : Fin 512) : Fin 2048 := ⟨o + x.val, by omega⟩

/-- One channel group at a position: the trailing mean less the value, times the group's matrix, at column `l`. -/
def mixed (X : Fin 512 → ℕ → EReal) (w : ℕ) (word : BitVec 32) (W : Fin 512 → Fin 512 → EReal) (t : ℕ) (l : Fin 512) : EReal :=
  ∑ x : Fin 512, (Ideal.div (trail (X x) w t) (count word t) - X x t) * W x l

/-- A row of 2048 lanes from its four channel groups. -/
def joinGroups (a b c d : Fin 512 → EReal) (l : Fin 2048) : EReal :=
  if h : l.val < 512 then a ⟨l.val, h⟩
  else if h : l.val - 512 < 512 then b ⟨l.val - 512, h⟩
  else if h : l.val - 512 - 512 < 512 then c ⟨l.val - 512 - 512, h⟩
  else d ⟨l.val - 512 - 512 - 512, by omega⟩

/-- The mixer's result at an index: the stream plus the four groups' products under their scale. -/
def pooled (H : (⟨3, ![4, 4096, 2048]⟩ : Shape).Idx → EReal) (G : (⟨2, ![1, 2048]⟩ : Shape).Idx → EReal)
    (W : (⟨4, ![2, 4, 512, 512]⟩ : Shape).Idx → EReal) (S : (⟨2, ![1, 2048]⟩ : Shape).Idx → EReal) (b : Fin 4) (t : Fin 4096)
    (l : Fin 2048) : EReal :=
  let part (o : ℕ) (ho : o ≤ 1536) (w : ℕ) (word : BitVec 32) (g : Fin 4) : Fin 512 → EReal :=
    mixed (fun x => normed H G b (lane o ho x)) w word (fun x l => W (ix4 0 g x l)) t.val
  H (ix3 b t l) + joinGroups (part 0 (by decide) 2 2#32 0) (part 512 (by decide) 4 4#32 1) (part 1024 (by decide) 8 8#32 2)
    (part 1536 (by decide) 16 16#32 3) l * S (ix2 0 l)

/-- The 528 rows of a block with its halo: the 16 positions before the block's first (zero before the sequence), then its own 512. -/
def above (X : ℕ → EReal) (tb p : ℕ) : EReal :=
  if p < 16 then (if tb = 0 then 0 else X (512 * tb - 16 + p)) else X (512 * tb + (p - 16))

/-- A trailing sum over those rows is the trailing sum over the sequence. -/
theorem above_sum (X : ℕ → EReal) (tb w r : ℕ) (hw : w ≤ 16) :
    ∑ d ∈ Finset.range w, above X tb (16 + r - d) = trail X w (512 * tb + r) := by
  unfold trail
  refine Finset.sum_congr rfl fun d hd => ?_
  have hd := Finset.mem_range.1 hd
  unfold above
  by_cases h : d ≤ r
  · rw [if_neg (by omega), if_pos (by omega), show 512 * tb + (16 + r - d - 16) = 512 * tb + r - d by omega]
  · rw [if_pos (by omega)]
    by_cases h0 : tb = 0
    · rw [if_pos h0, if_neg (by omega)]
    · rw [if_neg h0, if_pos (by omega), show 512 * tb - 16 + (16 + r - d) = 512 * tb + r - d by omega]

/-- Two sums of `s` values, the second `s` places before the first, are one sum of `2 * s`. -/
theorem doubled (E : ℕ → EReal) (s p : ℕ) :
    (∑ d ∈ Finset.range s, E (p - d)) + (∑ d ∈ Finset.range s, E (p - s - d)) = ∑ d ∈ Finset.range (s + s), E (p - d) := by
  rw [Finset.sum_range_add]
  simp only [Nat.sub_sub]

/-- A left fold of additions is its start plus the sum. -/
theorem foldl_add {ι : Type*} (g : ι → EReal) : ∀ (l : List ι) (v : EReal), l.foldl (fun r n => r + g n) v = v + (l.map g).sum
  | [], v => (add_zero v).symm
  | a :: l, v => by rw [List.foldl_cons, foldl_add g l, List.map_cons, List.sum_cons, add_assoc]

/-- A window of 4096 places that ends at `t`, laid over values with 4095 zeros before them, sums the values up to `t`. -/
theorem window_sum (X : ℕ → EReal) (t : ℕ) (ht : t < 4096) :
    (∑ n ∈ Finset.range 4096, if 4095 ≤ t + n then X (t + n - 4095) else 0) = ∑ s ∈ Finset.range (t + 1), X s := by
  have e : 4096 = (4095 - t) + (t + 1) := by omega
  conv_lhs => rw [e, Finset.sum_range_add]
  rw [Finset.sum_eq_zero fun n hn => if_neg (by rw [Finset.mem_range] at hn; omega), zero_add]
  refine Finset.sum_congr rfl fun s _ => ?_
  rw [if_pos (by omega), show t + (4095 - t + s) - 4095 = s by omega]

end Cert.Pool

end
-- ==== Proof.PoolKernel.lean ====
/-
  The pooling mixer's kernel, element by element: the halo and the block's own rows joined, the trailing sums built by doubling with
  rotations along the rows, and one channel group's product.
-/
module

public import proofs.«01_k».proof.Proof.Gen.Kernel5Ideal.Value
public import proofs.«01_k».proof.Proof.PoolMath
public import proofs.«01_k».proof.Proof.Ix
public import Idealize.ShloMosaic.Lib.Pipeline.Value

@[expose] public section

noncomputable section

namespace Cert.Pool

open Idealize.ShloMosaic Idealize.ShloMosaic.TcCoe Idealize.SL.Sem
open Cert.Kernel5Ideal Cert.Kernel5Ideal.Gen
open Cert.Ffn (rms)
open scoped BigOperators

/-- The sum of a table and its rows `s` places down. -/
def fold (s : BitVec 32) (e : FVec Ideal S528x512 .f32) : FVec Ideal S528x512 .f32 :=
  addf e (dynamicRotate 0 s none e rotates_S528x512_d0)

/-- A table whose rows are sums of `s` rows of `E` becomes one of sums of `2 * s` rows, once the fold's rotation is read. -/
theorem fold_sum (s : ℕ) (s0 : 0 < s) (s1 : s < 528) (word : BitVec 32) (e : FVec Ideal S528x512 .f32) (k : Fin 512) (E : ℕ → EReal)
    (he : ∀ p : Fin 528, s ≤ p.val + 1 → e (ix2 p k) = ∑ d ∈ Finset.range s, E (p.val - d))
    (hr : ∀ p : Fin 528, fold word e (ix2 p k) = e (ix2 p k) + e (ix2 ⟨(p.val + 528 - s) % 528, Nat.mod_lt _ (by decide)⟩ k))
    (p : Fin 528) (hp : s + s ≤ p.val + 1) : fold word e (ix2 p k) = ∑ d ∈ Finset.range (s + s), E (p.val - d) := by
  have hm : (p.val + 528 - s) % 528 = p.val - s := by omega
  rw [hr p, he p (by omega), he _ (by show s ≤ (p.val + 528 - s) % 528 + 1; omega)]
  show _ + ∑ d ∈ Finset.range s, E ((p.val + 528 - s) % 528 - d) = _
  rw [hm]
  exact doubled E s p.val

theorem fold1 (e : FVec Ideal S528x512 .f32) (p : Fin 528) (k : Fin 512) :
    fold 1#32 e (ix2 p k) = e (ix2 p k) + e (ix2 ⟨(p.val + 528 - 1) % 528, Nat.mod_lt _ (by decide)⟩ k) := by
  pointwise [fold]
theorem fold2 (e : FVec Ideal S528x512 .f32) (p : Fin 528) (k : Fin 512) :
    fold 2#32 e (ix2 p k) = e (ix2 p k) + e (ix2 ⟨(p.val + 528 - 2) % 528, Nat.mod_lt _ (by decide)⟩ k) := by
  pointwise [fold]
theorem fold4 (e : FVec Ideal S528x512 .f32) (p : Fin 528) (k : Fin 512) :
    fold 4#32 e (ix2 p k) = e (ix2 p k) + e (ix2 ⟨(p.val + 528 - 4) % 528, Nat.mod_lt _ (by decide)⟩ k) := by
  pointwise [fold]
theorem fold8 (e : FVec Ideal S528x512 .f32) (p : Fin 528) (k : Fin 512) :
    fold 8#32 e (ix2 p k) = e (ix2 p k) + e (ix2 ⟨(p.val + 528 - 8) % 528, Nat.mod_lt _ (by decide)⟩ k) := by
  pointwise [fold]

section Windows

variable (e : FVec Ideal S528x512 .f32) (k : Fin 512) (E : ℕ → EReal) (he : ∀ p : Fin 528, e (ix2 p k) = E p.val)
include he

/-- The trailing sums of 2, 4, 8 and 16 rows, where as many rows lie above. -/
theorem sum2 (p : Fin 528) (hp : 2 ≤ p.val + 1) : fold 1#32 e (ix2 p k) = ∑ d ∈ Finset.range 2, E (p.val - d) :=
  fold_sum 1 (by decide) (by decide) 1#32 e k E (fun p _ => by rw [he, Finset.sum_range_one, Nat.sub_zero]) (fun p => fold1 e p k) p hp
theorem sum4 (p : Fin 528) (hp : 4 ≤ p.val + 1) : fold 2#32 (fold 1#32 e) (ix2 p k) = ∑ d ∈ Finset.range 4, E (p.val - d) :=
  fold_sum 2 (by decide) (by decide) 2#32 _ k E (sum2 e k E he) (fun p => fold2 _ p k) p hp
theorem sum8 (p : Fin 528) (hp : 8 ≤ p.val + 1) :
    fold 4#32 (fold 2#32 (fold 1#32 e)) (ix2 p k) = ∑ d ∈ Finset.range 8, E (p.val - d) :=
  fold_sum 4 (by decide) (by decide) 4#32 _ k E (sum4 e k E he) (fun p => fold4 _ p k) p hp
theorem sum16 (p : Fin 528) (hp : 16 ≤ p.val + 1) :
    fold 8#32 (fold 4#32 (fold 2#32 (fold 1#32 e))) (ix2 p k) = ∑ d ∈ Finset.range 16, E (p.val - d) :=
  fold_sum 8 (by decide) (by decide) 8#32 _ k E (sum8 e k E he) (fun p => fold8 _ p k) p hp

end Windows

/-- The halo's 16 rows above the block's own rows, of one channel group. -/
abbrev joined (a : FVec Ideal S16x512 .f32) (u : FVec Ideal S512x512 .f32) : FVec Ideal S528x512 .f32 :=
  concatenate S528x512 0 [⟨S16x512, a⟩, ⟨S512x512, u⟩] concatenates_S16x512_S512x512_S528x512_d0

theorem joined_apply (a : FVec Ideal S16x512 .f32) (u : FVec Ideal S512x512 .f32) (p : Fin 528) (x : Fin 512) :
    joined a u (ix2 p x) = if h : p.val < 16 then a (ix2 ⟨p.val, h⟩ x) else u (ix2 ⟨p.val - 16, by omega⟩ x) := by
  pointwise []

/-- One channel group of a block: the trailing mean less the rows, times the group's matrix. -/
def group (win : FVec Ideal S528x512 .f32) (u : FVec Ideal S512x512 .f32) (pos : IVec S512x1 32) (w : BitVec 32)
    (wt : FVec Ideal S1x1x512x512 .bf16) : FVec Ideal S512x512 .f32 :=
  matmul dot_S512x512_S512x512_S512x512_1_0_0_1_n_n none
    (truncf .bf16 (subf (divf (extractStridedSlice S512x512 ![16, 0] win slices_S528x512_o16_0_S512x512)
      (broadcastTo S512x512 (sitofp .f32 (minsi (addi pos (broadcast S512x1 1#32)) (broadcast S512x1 w))) broadcasts_S512x1_S512x512)) u)
      bitsLt_bf16_f32)
    (shapeCast S512x512 wt shapeCasts_S1x1x512x512_S512x512) (constant S512x512 .f32 0x00000000#32)

theorem group_apply (win : FVec Ideal S528x512 .f32) (u : FVec Ideal S512x512 .f32) (pos : IVec S512x1 32) (w : BitVec 32)
    (wt : FVec Ideal S1x1x512x512 .bf16) (r l : Fin 512) :
    group win u pos w wt (ix2 r l)
      = ∑ x : Fin 512, (Ideal.div (win (ix2 ⟨16 + r.val, by omega⟩ x))
          (FloatOps.sitofp (F := Ideal) .f32 (IntOp.minsi (IntOp.addi (pos (ix2 r 0)) 1#32) w)) - u (ix2 r x)) * wt (ix4 0 0 x l) := by
  pointwise [group]

/-- A channel group of a block whose rows, halo and positions are the sequence's is the group of the sequence. -/
theorem group_mixed (X : Fin 512 → ℕ → EReal) (tb w : ℕ) (hw : w ≤ 16) (word : BitVec 32) (win : FVec Ideal S528x512 .f32)
    (a : FVec Ideal S16x512 .f32) (u : FVec Ideal S512x512 .f32) (pos : IVec S512x1 32) (wt : FVec Ideal S1x1x512x512 .bf16) (r l : Fin 512)
    (ha : ∀ p x, a (ix2 p x) = if tb = 0 then 0 else X x (512 * tb - 16 + p.val))
    (hu : ∀ r x, u (ix2 r x) = X x (512 * tb + r.val))
    (hpos : pos (ix2 r 0) = BitVec.ofNat 32 (512 * tb + r.val))
    (hwin : ∀ (x : Fin 512) (E : ℕ → EReal), (∀ p : Fin 528, joined a u (ix2 p x) = E p.val) → ∀ p : Fin 528, w ≤ p.val + 1 →
      win (ix2 p x) = ∑ d ∈ Finset.range w, E (p.val - d)) :
    group win u pos word wt (ix2 r l) = mixed X w word (fun x l => wt (ix4 0 0 x l)) (512 * tb + r.val) l := by
  rw [group_apply]
  unfold mixed
  refine Finset.sum_congr rfl fun x _ => ?_
  have hj : ∀ p : Fin 528, joined a u (ix2 p x) = above (X x) tb p.val := fun p => by
    rw [joined_apply]
    unfold above
    by_cases h : p.val < 16
    · rw [dif_pos h, if_pos h, ha]
    · rw [dif_neg h, if_neg h, hu]
  rw [hwin x _ hj ⟨16 + r.val, by omega⟩ (by show w ≤ 16 + r.val + 1; omega), above_sum (X x) tb w r.val hw, hu, hpos]

/-- What a point adds to its block: the four groups' products under their scale. -/
theorem pay1_apply (h : FVec Ideal S512x2048 .f32) (a0 a1 a2 a3 : FVec Ideal S512x512 .f32) (s : FVec Ideal S1x2048 .f32) (r : Fin 512)
    (l : Fin 2048) :
    k0_pay1 h a0 a1 a2 a3 s (ix3 0 r l)
      = h (ix2 r l) + joinGroups (fun x => a0 (ix2 r x)) (fun x => a1 (ix2 r x)) (fun x => a2 (ix2 r x)) (fun x => a3 (ix2 r x)) l
          * s (ix2 0 l) := by
  pointwise [k0_pay1, joinGroups]

theorem pay2_apply (x : Vec Ideal S1x512x2048 .f32) (r : Fin 512) (l : Fin 2048) : k0_pay2 (F := Ideal) x (ix2 r l) = x (ix3 0 r l) := by
  pointwise [k0_pay2]

/-- The block's normed rows, its halo's (zero at the sequence's start), and its positions. -/
theorem rows_apply (x : Vec Ideal S1x512x2048 .f32) (g : Vec Ideal S1x2048 .f32) (r : Fin 512) (l : Fin 2048) :
    k0_pay3 (F := Ideal) x g (ix2 r l) = rms (fun k => x (ix3 0 r k)) (fun k => g (ix2 0 k)) l := by
  pointwise [k0_pay3, k0_pay2, rms]

theorem halo_apply (i : grid0.Coords) (x : Vec Ideal S1x16x2048 .f32) (g : Vec Ideal S1x2048 .f32) (r : Fin 16) (l : Fin 2048) :
    k0_pay4 (F := Ideal) i x g (ix2 r l) = if (i 1).val = 0 then 0 else rms (fun k => x (ix3 0 r k)) (fun k => g (ix2 0 k)) l := by
  have h : k0_pay4 (F := Ideal) i x g (ix2 r l)
      = Scalar.select (Scalar.cmpi .eq (BitVec.ofNat 32 (i 1).val) 0#32) 0 (rms (fun k => x (ix3 0 r k)) (fun k => g (ix2 0 k)) l) := by
    pointwise [k0_pay4, rms]
  rw [h]
  have hb : ∀ n : Fin 8, Scalar.cmpi .eq (BitVec.ofNat 32 n.val) 0#32 = if n.val = 0 then 1#1 else 0#1 := by decide
  rw [hb (i 1)]
  split <;> rfl

theorem pos_apply (i : grid0.Coords) (r : Fin 512) : k0_pay5 i (ix2 r 0) = BitVec.ofNat 32 (512 * (i 1).val + r.val) := by
  have h : k0_pay5 i (ix2 r 0) = IntOp.addi (Scalar.muli (BitVec.ofNat 32 (i 1).val) 512#32) (BitVec.ofNat 32 r.val) := by
    pointwise [k0_pay5]
  rw [h, mul_comm 512, BitVec.ofNat_add, BitVec.ofNat_mul]
  rfl

/-- The columns of one channel group, of the rows and of the halo. -/
theorem cols_apply (v : FVec Ideal S512x2048 .f32) (r x : Fin 512) :
    extractStridedSlice S512x512 ![0, 0] v slices_S512x2048_o0_0_S512x512 (ix2 r x) = v (ix2 r (lane 0 (by decide) x))
    ∧ extractStridedSlice S512x512 ![0, 512] v slices_S512x2048_o0_512_S512x512 (ix2 r x) = v (ix2 r (lane 512 (by decide) x))
    ∧ extractStridedSlice S512x512 ![0, 1024] v slices_S512x2048_o0_1024_S512x512 (ix2 r x) = v (ix2 r (lane 1024 (by decide) x))
    ∧ extractStridedSlice S512x512 ![0, 1536] v slices_S512x2048_o0_1536_S512x512 (ix2 r x) = v (ix2 r (lane 1536 (by decide) x)) :=
  ⟨congrArg v (Ix.two (Nat.zero_add _) rfl), congrArg v (Ix.two (Nat.zero_add _) rfl), congrArg v (Ix.two (Nat.zero_add _) rfl),
    congrArg v (Ix.two (Nat.zero_add _) rfl)⟩

theorem halo_cols_apply (v : FVec Ideal S16x2048 .f32) (r : Fin 16) (x : Fin 512) :
    extractStridedSlice S16x512 ![0, 0] v slices_S16x2048_o0_0_S16x512 (ix2 r x) = v (ix2 r (lane 0 (by decide) x))
    ∧ extractStridedSlice S16x512 ![0, 512] v slices_S16x2048_o0_512_S16x512 (ix2 r x) = v (ix2 r (lane 512 (by decide) x))
    ∧ extractStridedSlice S16x512 ![0, 1024] v slices_S16x2048_o0_1024_S16x512 (ix2 r x) = v (ix2 r (lane 1024 (by decide) x))
    ∧ extractStridedSlice S16x512 ![0, 1536] v slices_S16x2048_o0_1536_S16x512 (ix2 r x) = v (ix2 r (lane 1536 (by decide) x)) :=
  ⟨congrArg v (Ix.two (Nat.zero_add _) rfl), congrArg v (Ix.two (Nat.zero_add _) rfl), congrArg v (Ix.two (Nat.zero_add _) rfl),
    congrArg v (Ix.two (Nat.zero_add _) rfl)⟩

section Groups

variable (X : Fin 2048 → ℕ → EReal) (i : grid0.Coords) (v : FVec Ideal S512x2048 .f32) (z : FVec Ideal S16x2048 .f32)
  (hv : ∀ r l, v (ix2 r l) = X l (512 * (i 1).val + r.val))
  (hz : ∀ p l, z (ix2 p l) = if (i 1).val = 0 then 0 else X l (512 * (i 1).val - 16 + p.val))
  (wt : FVec Ideal S1x1x512x512 .bf16) (r l : Fin 512)
include hv hz

/-- The four channel groups of a block, with windows of 2, 4, 8 and 16 positions. -/
theorem group0 : k0_pay8 (k0_pay5 i) (extractStridedSlice S512x512 ![0, 0] v slices_S512x2048_o0_0_S512x512)
      (extractStridedSlice S16x512 ![0, 0] z slices_S16x2048_o0_0_S16x512) wt (ix2 r l)
    = mixed (fun x => X (lane 0 (by decide) x)) 2 2#32 (fun x l => wt (ix4 0 0 x l)) (512 * (i 1).val + r.val) l :=
  group_mixed _ (i 1).val 2 (by decide) 2#32 (fold 1#32 (joined _ _)) _ _ (k0_pay5 i) wt r l
    (fun p x => (halo_cols_apply z p x).1.trans (hz p _)) (fun r x => (cols_apply v r x).1.trans (hv r _)) (pos_apply i r)
    (fun x E he => sum2 _ x E he)

theorem group1 : k0_pay9 v z (k0_pay5 i) wt (ix2 r l)
    = mixed (fun x => X (lane 512 (by decide) x)) 4 4#32 (fun x l => wt (ix4 0 0 x l)) (512 * (i 1).val + r.val) l :=
  group_mixed _ (i 1).val 4 (by decide) 4#32 (fold 2#32 (fold 1#32 (joined _ _))) _ _ (k0_pay5 i) wt r l
    (fun p x => (halo_cols_apply z p x).2.1.trans (hz p _)) (fun r x => (cols_apply v r x).2.1.trans (hv r _)) (pos_apply i r)
    (fun x E he => sum4 _ x E he)

theorem group2 : k0_pay12 (k0_pay5 i) (k0_pay10 v) (k0_pay11 v z) 2#32 wt (ix2 r l)
    = mixed (fun x => X (lane 1024 (by decide) x)) 8 8#32 (fun x l => wt (ix4 0 0 x l)) (512 * (i 1).val + r.val) l :=
  group_mixed _ (i 1).val 8 (by decide) 8#32 (fold 4#32 (fold 2#32 (fold 1#32 (joined _ _)))) _ _ (k0_pay5 i) wt r l
    (fun p x => (halo_cols_apply z p x).2.2.1.trans (hz p _)) (fun r x => (cols_apply v r x).2.2.1.trans (hv r _)) (pos_apply i r)
    (fun x E he => sum8 _ x E he)

theorem group3 : k0_pay13 v z (k0_pay5 i) wt (ix2 r l)
    = mixed (fun x => X (lane 1536 (by decide) x)) 16 16#32 (fun x l => wt (ix4 0 0 x l)) (512 * (i 1).val + r.val) l :=
  group_mixed _ (i 1).val 16 (by decide) 16#32 (fold 8#32 (fold 4#32 (fold 2#32 (fold 1#32 (joined _ _))))) _ _ (k0_pay5 i) wt r l
    (fun p x => (halo_cols_apply z p x).2.2.2.trans (hz p _)) (fun r x => (cols_apply v r x).2.2.2.trans (hv r _)) (pos_apply i r)
    (fun x E he => sum16 _ x E he)

end Groups

end Cert.Pool

end
-- ==== Proof.PoolBlocks.lean ====
/-
  The pooling mixer's kernel over its grid: each point's input blocks are rows of the stream, its halo the 16 positions before them, and
  the array its points leave holds the mixer's result at every index.
-/
module

public import proofs.«01_k».proof.Proof.PoolKernel

@[expose] public section

noncomputable section

namespace Cert.Pool

open Idealize.ShloMosaic Idealize.ShloMosaic.TcCoe Idealize.SL.Sem
open Cert.Kernel5Ideal Cert.Kernel5Ideal.Gen
open Cert.Ffn (rms)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-- The launch's arguments. -/
abbrev argH : (⟨3, ![4, 4096, 2048]⟩ : Shape).Idx → EReal := m ((c : Thread nD τ).loc main_arg0)
abbrev argG : (⟨2, ![1, 2048]⟩ : Shape).Idx → EReal := m ((c : Thread nD τ).loc main_arg1)
abbrev argW : (⟨4, ![2, 4, 512, 512]⟩ : Shape).Idx → EReal := m ((c : Thread nD τ).loc main_arg2)
abbrev argS : (⟨2, ![1, 2048]⟩ : Shape).Idx → EReal := m ((c : Thread nD τ).loc main_arg3)

variable (t : Fin cfg0.N)

/-- The printed index maps: the sequence, and the block of 512 positions in it; the halo's block is the one of 16 positions before. -/
theorem index_facts : ∀ t : Fin cfg0.N,
    ((grid0.coords t 0).val = t.val / 8 ∧ (grid0.coords t 1).val = t.val % 8)
    ∧ (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 32 * (t.val % 8) - 1 ∧ win0_1.index t (2 : Fin 3) = 0)
    ∧ (win0_2.index t (0 : Fin 2) = 0 ∧ win0_2.index t (1 : Fin 2) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 3) = t.val / 8 ∧ win0_5.index t (1 : Fin 3) = t.val % 8 ∧ win0_5.index t (2 : Fin 3) = 0) :=
  (by decide +kernel : ∀ t : Fin grid0.N, _)

theorem point_lt : t.val < 32 := lt_of_lt_of_eq t.isLt N_0

/-- The point's sequence, and the position that is row `r` of its block. -/
abbrev seqAt : Fin 4 := ⟨t.val / 8, by have := point_lt t; omega⟩
abbrev posAt (r : Fin 512) : Fin 4096 := ⟨512 * (t.val % 8) + r.val, by omega⟩

theorem iblk_h (r : Fin 512) (k : Fin 2048) :
    (iblk m c 0 t : Vec Ideal S1x512x2048 .f32) (ix3 0 r k) = argH m c (ix3 (seqAt t) (posAt t r) k) := by
  have hi := (index_facts t).2.1
  unfold iblk
  rw [View.read_apply]
  show V m c main_arg0 _ = _
  rw [V_main_arg0]
  exact congrArg _ (Ix.three (by show win0_0.index t (0 : Fin 3) * 1 + 1 * 0 = t.val / 8; rw [hi.1]; omega)
    (by show win0_0.index t (1 : Fin 3) * 512 + 1 * r.val = 512 * (t.val % 8) + r.val; rw [hi.2.1]; omega)
    (by show win0_0.index t (2 : Fin 3) * 2048 + 1 * k.val = k.val; rw [hi.2.2]; omega))

theorem iblk_halo (h0 : t.val % 8 ≠ 0) (p : Fin 16) (k : Fin 2048) :
    (iblk m c 1 t : Vec Ideal S1x16x2048 .f32) (ix3 0 p k)
      = argH m c (ix3 (seqAt t) ⟨512 * (t.val % 8) - 16 + p.val, by omega⟩ k) := by
  have hi := (index_facts t).2.2.1
  unfold iblk
  rw [View.read_apply]
  show V m c main_arg0 _ = _
  rw [V_main_arg0]
  exact congrArg _ (Ix.three (by show win0_1.index t (0 : Fin 3) * 1 + 1 * 0 = t.val / 8; rw [hi.1]; omega)
    (by show win0_1.index t (1 : Fin 3) * 16 + 1 * p.val = 512 * (t.val % 8) - 16 + p.val; rw [hi.2.1]; omega)
    (by show win0_1.index t (2 : Fin 3) * 2048 + 1 * k.val = k.val; rw [hi.2.2]; omega))

theorem iblk_g (k : Fin 2048) : (iblk m c 2 t : Vec Ideal S1x2048 .f32) (ix2 0 k) = argG m c (ix2 0 k) := by
  have hi := (index_facts t).2.2.2.1
  unfold iblk
  rw [View.read_apply]
  show V m c main_arg1 _ = _
  rw [V_main_arg1]
  exact congrArg _ (Ix.two (by show win0_2.index t (0 : Fin 2) * 1 + 1 * 0 = 0; rw [hi.1])
    (by show win0_2.index t (1 : Fin 2) * 2048 + 1 * k.val = k.val; rw [hi.2]; omega))

theorem iblk_w (g : Fin 4) (k l : Fin 512) :
    (iblk m c 3 t : Vec Ideal S1x4x512x512 .bf16) (ix4 0 g k l) = argW m c (ix4 0 g k l) := by
  have hi := (index_facts t).2.2.2.2.1
  unfold iblk
  rw [View.read_apply]
  show V m c main_arg2 _ = _
  rw [V_main_arg2]
  exact congrArg _ (Ix.four (by show win0_3.index t (0 : Fin 4) * 1 + 1 * 0 = 0; rw [hi.1])
    (by show win0_3.index t (1 : Fin 4) * 4 + 1 * g.val = g.val; rw [hi.2.1]; omega)
    (by show win0_3.index t (2 : Fin 4) * 512 + 1 * k.val = k.val; rw [hi.2.2.1]; omega)
    (by show win0_3.index t (3 : Fin 4) * 512 + 1 * l.val = l.val; rw [hi.2.2.2]; omega))

theorem iblk_s (k : Fin 2048) : (iblk m c 4 t : Vec Ideal S1x2048 .f32) (ix2 0 k) = argS m c (ix2 0 k) := by
  have hi := (index_facts t).2.2.2.2.2.1
  unfold iblk
  rw [View.read_apply]
  show V m c main_arg3 _ = _
  rw [V_main_arg3]
  exact congrArg _ (Ix.two (by show win0_4.index t (0 : Fin 2) * 1 + 1 * 0 = 0; rw [hi.1])
    (by show win0_4.index t (1 : Fin 2) * 2048 + 1 * k.val = k.val; rw [hi.2]; omega))

/-- The point's normed rows and halo are the sequence's. -/
theorem rows_seq (r : Fin 512) (l : Fin 2048) :
    k0_pay3 (F := Ideal) (iblk m c 0 t) (iblk m c 2 t) (ix2 r l)
      = normed (argH m c) (argG m c) (seqAt t) l (512 * (grid0.coords t 1).val + r.val) := by
  rw [(index_facts t).1.2]
  refine (rows_apply _ _ r l).trans ?_
  unfold normed
  rw [dif_pos (posAt t r).isLt]
  simp only [iblk_h, iblk_g]

theorem halo_seq (p : Fin 16) (l : Fin 2048) :
    k0_pay4 (F := Ideal) (grid0.coords t) (iblk m c 1 t) (iblk m c 2 t) (ix2 p l)
      = if (grid0.coords t 1).val = 0 then 0
        else normed (argH m c) (argG m c) (seqAt t) l (512 * (grid0.coords t 1).val - 16 + p.val) := by
  refine (halo_apply _ _ _ p l).trans ?_
  rw [(index_facts t).1.2]
  by_cases h0 : t.val % 8 = 0
  · rw [if_pos h0, if_pos h0]
  · rw [if_neg h0, if_neg h0]
    unfold normed
    rw [dif_pos (by omega)]
    simp only [iblk_halo m c t h0, iblk_g]

/-- One group's matrix, as the body loads it. -/
theorem load_w (x : Vec Ideal S1x4x512x512 .bf16) (k l : Fin 512) :
    View.ld x r0_3 (ix4 0 0 k l) = x (ix4 0 0 k l) ∧ View.ld x r0_4 (ix4 0 0 k l) = x (ix4 0 1 k l)
    ∧ View.ld x r0_5 (ix4 0 0 k l) = x (ix4 0 2 k l) ∧ View.ld x r0_6 (ix4 0 0 k l) = x (ix4 0 3 k l) :=
  ⟨congrArg x (Ix.four rfl rfl (by show 0 + 1 * k.val = k.val; omega) (by show 0 + 1 * l.val = l.val; omega)),
    congrArg x (Ix.four rfl rfl (by show 0 + 1 * k.val = k.val; omega) (by show 0 + 1 * l.val = l.val; omega)),
    congrArg x (Ix.four rfl rfl (by show 0 + 1 * k.val = k.val; omega) (by show 0 + 1 * l.val = l.val; omega)),
    congrArg x (Ix.four rfl rfl (by show 0 + 1 * k.val = k.val; omega) (by show 0 + 1 * l.val = l.val; omega))⟩

/-- The output block of a point, from its input blocks. -/
theorem out_apply (i : grid0.Coords) (x0 : Vec Ideal S1x512x2048 .f32) (x1 : Vec Ideal S1x16x2048 .f32) (x2 : Vec Ideal S1x2048 .f32)
    (x3 : Vec Ideal S1x4x512x512 .bf16) (x4 : Vec Ideal S1x2048 .f32) :
    out0_5 i x0 x1 x2 x3 x4 = k0_pay1 (k0_pay2 x0)
      (k0_pay8 (k0_pay5 i) (k0_pay6 x0 x2) (k0_pay7 i x1 x2) (View.ld x3 r0_3))
      (k0_pay9 (k0_pay3 x0 x2) (k0_pay4 i x1 x2) (k0_pay5 i) (View.ld x3 r0_4))
      (k0_pay12 (k0_pay5 i) (k0_pay10 (k0_pay3 x0 x2)) (k0_pay11 (k0_pay3 x0 x2) (k0_pay4 i x1 x2)) 2#32 (View.ld x3 r0_5))
      (k0_pay13 (k0_pay3 x0 x2) (k0_pay4 i x1 x2) (k0_pay5 i) (View.ld x3 r0_6)) x4 := by
  unfold_out out0_5
  rw [View.canon_unit_zero hz3]
  simp only [View.ld_unit_zero (S := S1x512x2048) hz3, View.ld_unit_zero (S := S1x16x2048) hz3, View.ld_unit_zero (S := S1x2048) hz2]

/-- What a point writes, at an index: the mixer's result at its position. -/
theorem point_apply (r : Fin 512) (l : Fin 2048) :
    out0_5 (F := Ideal) (grid0.coords t) (iblk m c 0 t) (iblk m c 1 t) (iblk m c 2 t) (iblk m c 3 t) (iblk m c 4 t) (ix3 0 r l)
      = pooled (argH m c) (argG m c) (argW m c) (argS m c) (seqAt t) (posAt t r) l := by
  have hp : 512 * (grid0.coords t 1).val + r.val = 512 * (t.val % 8) + r.val := by rw [(index_facts t).1.2]
  rw [out_apply]
  refine (pay1_apply _ _ _ _ _ _ r l).trans ?_
  have hr := rows_seq m c t
  have hh := halo_seq m c t
  have e0 : ∀ x, _ := fun x => group0 (normed (argH m c) (argG m c) (seqAt t)) (grid0.coords t) _ _ hr hh (View.ld (iblk m c 3 t) r0_3) r x
  have e1 : ∀ x, _ := fun x => group1 (normed (argH m c) (argG m c) (seqAt t)) (grid0.coords t) _ _ hr hh (View.ld (iblk m c 3 t) r0_4) r x
  have e2 : ∀ x, _ := fun x => group2 (normed (argH m c) (argG m c) (seqAt t)) (grid0.coords t) _ _ hr hh (View.ld (iblk m c 3 t) r0_5) r x
  have e3 : ∀ x, _ := fun x => group3 (normed (argH m c) (argG m c) (seqAt t)) (grid0.coords t) _ _ hr hh (View.ld (iblk m c 3 t) r0_6) r x
  have hw := load_w (iblk m c 3 t)
  have hW := iblk_w m c t
  refine congrArg₂ (· + ·) ((pay2_apply _ r l).trans (iblk_h m c t r l)) (congrArg₂ (· * ·) ?_ (iblk_s m c t l))
  refine congr (congr (congr (congr (congrArg joinGroups (funext fun x => ?_)) (funext fun x => ?_)) (funext fun x => ?_)) (funext fun x => ?_)) rfl
  · refine (e0 x).trans ?_
    simp only [(hw _ _).1, hW, hp]
  · refine (e1 x).trans ?_
    simp only [(hw _ _).2.1, hW, hp]
  · refine (e2 x).trans ?_
    simp only [(hw _ _).2.2.1, hW, hp]
  · refine (e3 x).trans ?_
    simp only [(hw _ _).2.2.2, hW, hp]

/-- THE RESULT at an index. -/
theorem result_apply (b : Fin 4) (s : Fin 4096) (l : Fin 2048) :
    (dats m 0 c).arrAt 5 cfg0.N (ix3 b s l) = pooled (argH m c) (argG m c) (argW m c) (argS m c) b s l := by
  have hN : cfg0.N = 32 := N_0
  let t : Fin cfg0.N := ⟨8 * b.val + s.val / 512, by omega⟩
  let r : Fin 512 := ⟨s.val % 512, Nat.mod_lt _ (by decide)⟩
  have hb : seqAt t = b := Fin.ext (by show (8 * b.val + s.val / 512) / 8 = b.val; omega)
  have hs : posAt t r = s := Fin.ext (by show 512 * ((8 * b.val + s.val / 512) % 8) + s.val % 512 = s.val; omega)
  have h := congrFun (Value.blocks5 m c t (flush0_5 t)) (ix3 0 r l)
  rw [View.read_apply, Value.flushed5] at h
  have hi := (index_facts t).2.2.2.2.2.2
  have he : ∀ j : (⟨3, ![4, 4096, 2048]⟩ : Shape).Idx, (j 0).val = win0_5.index t (0 : Fin 3) * 1 + 1 * 0 →
      (j 1).val = win0_5.index t (1 : Fin 3) * 512 + 1 * r.val → (j 2).val = win0_5.index t (2 : Fin 3) * 2048 + 1 * l.val →
      j = ix3 b s l := fun j h0 h1 h2 => Ix.three
    (by rw [h0, hi.1]; show (8 * b.val + s.val / 512) / 8 * 1 + 1 * 0 = b.val; omega)
    (by rw [h1, hi.2.1]; show (8 * b.val + s.val / 512) % 8 * 512 + 1 * (s.val % 512) = s.val; omega)
    (by rw [h2, hi.2.2]; omega)
  rw [← hb, ← hs]
  refine Eq.trans ?_ (h.trans (point_apply m c t r l))
  rw [hb, hs]
  exact congrArg _ (he _ rfl rfl rfl).symm

end Cert.Pool

end
-- ==== Proof.PoolRef.lean ====
/-
  The pooling mixer's reference, element by element: its running sum along the sequence, the trailing mean of one channel group as a
  difference of two running sums, and the group's product.
-/
module

public import proofs.«01_k».proof.Proof.Gen.Reference5Ideal.Read
public import proofs.«01_k».proof.Proof.PoolMath
public import proofs.«01_k».proof.Proof.Ix
public import Idealize.ShloMosaic.Lib.Pipeline.Value

@[expose] public section

noncomputable section

namespace Cert.Pool.Ref

open Idealize.ShloMosaic Idealize.ShloMosaic.TcCoe Idealize.SL.Sem
open Cert.Reference5Ideal Cert.Reference5Ideal.Gen Cert.Reference5Ideal.Read
open Cert.Ffn (rms)
open scoped BigOperators

/-- The running sum along the sequence, at an index. -/
theorem cumsum_apply (x : FVec Ideal S4x4096x2048 .f32) (z : FVec Ideal S_ .f32) (hz : ∀ i, z i = 0) (b : Fin 4) (t : Fin 4096)
    (k : Fin 2048) :
    Host.reduceWindowAdd ![1, 4096, 1] ![1, 1, 1] ![0, 4095, 0] ![0, 0, 0] x z
        reduceWindows_S4x4096x2048_S4x4096x2048_w1s1p0_0_w4096s1p4095_0_w1s1p0_0 h_S_ (ix3 b t k)
      = ∑ s ∈ Finset.range (t.val + 1), if h : s < 4096 then x (ix3 b ⟨s, h⟩ k) else 0 := by
  rw [← window_sum (fun s => if h : s < 4096 then x (ix3 b ⟨s, h⟩ k) else 0) t.val t.isLt]
  unfold Host.reduceWindowAdd
  rw [Ideal.hostReduceWindowAdd_def, hz]
  unfold Ideal.hostReduceWindowAdd Host.reduceWindow
  dsimp only
  rw [foldl_add, zero_add, ← Fin.sum_univ_def]
  rw [← Equiv.sum_comp (Shape.rowMajor (⟨3, ![1, 4096, 1]⟩ : Shape))]
  simp only [Equiv.symm_apply_apply]
  rw [Finset.sum_range]
  let e : Fin 4096 → (⟨3, ![1, 4096, 1]⟩ : Shape).Idx := fun n => ix3 0 n 0
  have he : Function.Bijective e := ⟨fun a c h => congrFun h 1, fun j => ⟨j 1, by
    refine (Ix.three ?_ rfl ?_).symm
    · exact Nat.lt_one_iff.1 (j 0).isLt
    · exact Nat.lt_one_iff.1 (j 2).isLt⟩⟩
  rw [← Function.Bijective.sum_comp he]
  refine Finset.sum_congr rfl fun n _ => ?_
  by_cases h : 4095 ≤ t.val + n.val
  · rw [if_pos h, dif_pos (show t.val + n.val - 4095 < 4096 by omega), dif_pos]
    · refine congrArg x (Ix.three ?_ ?_ ?_)
      · show b.val * 1 + 0 - 0 = b.val; omega
      · show t.val * 1 + n.val - 4095 = t.val + n.val - 4095; omega
      · show k.val * 1 + 0 - 0 = k.val; omega
    · intro a
      match a with
      | ⟨0, _⟩ => exact ⟨Nat.zero_le _, by show b.val * 1 + 0 - 0 < 4; omega⟩
      | ⟨1, _⟩ => exact ⟨by show 4095 ≤ t.val * 1 + n.val; omega, by show t.val * 1 + n.val - 4095 < 4096; omega⟩
      | ⟨2, _⟩ => exact ⟨Nat.zero_le _, by show k.val * 1 + 0 - 0 < 2048; omega⟩
  · rw [if_neg h, dif_neg]
    intro hc
    have h1 : 4095 ≤ t.val * 1 + n.val := (hc 1).1
    omega

/-- The gather along the sequence at one start per position: the operand at that start, clamped. -/
theorem gather_apply (x : FVec Ideal S4x4097x512 .f32) (idx : IVec S4096x1 32) (b : Fin 4) (t : Fin 4096) (k : Fin 512) :
    Host.gather gather_S4x4097x512_S4096x1_S4x4096x512_02_1_n_n_1_1_41512 x idx (ix3 b t k)
      = x (ix3 b ⟨min (idx (ix2 t 0)).toInt.toNat 4096, by omega⟩ k) := by
  let d := gather_S4x4097x512_S4096x1_S4x4096x512_02_1_n_n_1_1_41512
  unfold Host.gather
  refine congrArg x (Ix.three ?_ ?_ ?_)
  · show d.start (ix3 b t k) idx 0 + d.batchCoord (ix3 b t k) 0 + d.offCoord (ix3 b t k) 0 = b.val
    rw [GatherDims.batchCoord_eq_zero _ _ _ List.not_mem_nil]
    unfold GatherDims.start GatherDims.offCoord
    rw [dif_neg (by decide), dif_pos (by decide)]
    show 0 + 0 + b.val = b.val; omega
  · show d.start (ix3 b t k) idx 1 + d.batchCoord (ix3 b t k) 1 + d.offCoord (ix3 b t k) 1 = min (idx (ix2 t 0)).toInt.toNat 4096
    rw [GatherDims.batchCoord_eq_zero _ _ _ List.not_mem_nil, GatherDims.offCoord_eq_zero _ _ _ (by decide)]
    unfold GatherDims.start
    rw [dif_pos (by decide)]
    refine congrArg (fun j => min (idx j).toInt.toNat 4096) (Ix.two ?_ ?_) <;> rfl
  · show d.start (ix3 b t k) idx 2 + d.batchCoord (ix3 b t k) 2 + d.offCoord (ix3 b t k) 2 = k.val
    rw [GatherDims.batchCoord_eq_zero _ _ _ List.not_mem_nil]
    unfold GatherDims.start GatherDims.offCoord
    rw [dif_neg (by decide), dif_pos (by decide)]
    show 0 + 0 + k.val = k.val; omega

/-- The first position of the window of `w` that ends at position `t`, as the reference's word, before and after
    its guard against a negative index. -/
def startWord (w t : BitVec 32) : BitVec 32 := IntOp.maxsi (IntOp.subi (IntOp.addi t 1#32) w) 0#32
def wrapWord (w t : BitVec 32) : BitVec 32 :=
  Scalar.select (IntOp.cmpi .slt (startWord w t) 0#32) (IntOp.addi (startWord w t) 4097#32) (startWord w t)

/-- One channel group of the mixer: the trailing mean less the value, times the group's matrix. -/
def group (cs : FVec Ideal S4x4097x512 .f32) (U : FVec Ideal S4x4096x512 .f32) (w : BitVec 32) (W : FVec Ideal S512x512 .f32) :
    FVec Ideal S4x4096x512 .f32 :=
  let pos := addi (iotaInDim S4096 32 0) (broadcastInDim S4096 ![] bcast_S_S4096 (constantI S_ 32 1#32))
  let word := fun n : BitVec 32 => broadcastInDim S4096 ![] bcast_S_S4096 (constantI S_ 32 n)
  let lo := maxsi (subi pos (word w)) (word 0#32)
  let cnt := broadcastInDim S4x4096x512 ![0, 1, 2] bcast_S1x4096x1_S4x4096x512_0_1_2 (broadcastInDim S1x4096x1 ![1, 2]
    bcast_S4096x1_S1x4096x1_1_2 (broadcastInDim S4096x1 ![0] bcast_S4096_S4096x1_0 (sitofp .f32 (minsi pos (word w)))))
  Host.dotGeneral dot_S4x4096x512_S512x512_S4x4096x512_2_0_01_1_n_n none
    (subf (Host.divf (subf (extractStridedSlice S4x4096x512 ![0, 1, 0] cs slices_S4x4097x512_S4x4096x512_0_1_0)
      (Host.gather gather_S4x4097x512_S4096x1_S4x4096x512_02_1_n_n_1_1_41512 cs (broadcastInDim S4096x1 ![0] bcast_S4096_S4096x1_0
        (select (cmpi .slt lo (word 0#32)) (addi lo (word 4097#32)) lo)))) cnt) U) W

theorem group_apply (cs : FVec Ideal S4x4097x512 .f32) (U : FVec Ideal S4x4096x512 .f32) (w : BitVec 32) (W : FVec Ideal S512x512 .f32)
    (b : Fin 4) (t : Fin 4096) (l : Fin 512) :
    group cs U w W (ix3 b t l)
      = ∑ x : Fin 512, (Ideal.div (cs (ix3 b ⟨1 + t.val, by omega⟩ x)
          - cs (ix3 b ⟨min (wrapWord w (BitVec.ofNat 32 t.val)).toInt.toNat 4096, by omega⟩ x)) (count w t.val) - U (ix3 b t x))
          * W (ix2 x l) := by
  pointwise [group, gather_apply, wrapWord, startWord, count]

/-- The start words of the four windows are the positions they stand for. -/
theorem start2 : ∀ t : Fin 4096, min (wrapWord 2#32 (BitVec.ofNat 32 t.val)).toInt.toNat 4096 = t.val + 1 - 2 := by decide +kernel
theorem start4 : ∀ t : Fin 4096, min (wrapWord 4#32 (BitVec.ofNat 32 t.val)).toInt.toNat 4096 = t.val + 1 - 4 := by decide +kernel
theorem start8 : ∀ t : Fin 4096, min (wrapWord 8#32 (BitVec.ofNat 32 t.val)).toInt.toNat 4096 = t.val + 1 - 8 := by decide +kernel
theorem start16 : ∀ t : Fin 4096, min (wrapWord 16#32 (BitVec.ofNat 32 t.val)).toInt.toNat 4096 = t.val + 1 - 16 := by decide +kernel

/-- A channel group whose running sums and values are the sequence's is the group of the sequence. -/
theorem group_mixed (X : Fin 512 → ℕ → EReal) (hX : ∀ x s, Num (X x s)) (b : Fin 4) (cs : FVec Ideal S4x4097x512 .f32)
    (U : FVec Ideal S4x4096x512 .f32) (w : ℕ) (word : BitVec 32) (W : FVec Ideal S512x512 .f32)
    (hcs : ∀ (j : Fin 4097) x, cs (ix3 b j x) = ∑ s ∈ Finset.range j.val, X x s) (hU : ∀ (t : Fin 4096) x, U (ix3 b t x) = X x t.val)
    (hw : ∀ t : Fin 4096, min (wrapWord word (BitVec.ofNat 32 t.val)).toInt.toNat 4096 = t.val + 1 - w) (t : Fin 4096) (l : Fin 512) :
    group cs U word W (ix3 b t l) = mixed X w word (fun x l => W (ix2 x l)) t.val l := by
  rw [group_apply]
  unfold mixed
  refine Finset.sum_congr rfl fun x _ => ?_
  rw [hcs, hcs, hU]
  show (Ideal.div ((∑ s ∈ Finset.range (1 + t.val), X x s)
    - ∑ s ∈ Finset.range (min (wrapWord word (BitVec.ofNat 32 t.val)).toInt.toNat 4096), X x s) _ - _) * _ = _
  rw [hw t, add_comm 1, running_sub (X x) (hX x)]

variable (H : FVec Ideal S4x4096x2048 .f32) (G : FVec Ideal S1x2048 .f32) (W : FVec Ideal S2x4x512x512 .bf16) (S : FVec Ideal S1x2048 .f32)

/-- The normed rows, and their running sums with a zero before the first. -/
theorem normed_apply (b : Fin 4) (t : Fin 4096) (l : Fin 2048) : val_main_v12 (F := Ideal) H G (ix3 b t l) = normed H G b l t.val := by
  unfold normed
  rw [dif_pos t.isLt]
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem running_apply (b : Fin 4) (t : Fin 4096) (l : Fin 2048) :
    val_main_v17 (F := Ideal) H G (ix3 b t l) = ∑ s ∈ Finset.range (t.val + 1), normed H G b l s := by
  refine (cumsum_apply (val_main_v12 (F := Ideal) H G) (val_main_call0_v0 (F := Ideal)) (fun i => ?_) b t l).trans ?_
  · pointwise [val_main_call0_v0, val_main_call0_cst]
  · refine Finset.sum_congr rfl fun s hs => ?_
    have h : s < 4096 := by have := Finset.mem_range.1 hs; omega
    rw [dif_pos h]
    exact normed_apply H G b ⟨s, h⟩ l

theorem sums_apply (b : Fin 4) (j : Fin 4097) (l : Fin 2048) :
    val_main_v18 (F := Ideal) H G (ix3 b j l) = ∑ s ∈ Finset.range j.val, normed H G b l s := by
  pointwise [val_main_v18, val_main_v16, val_main_cst_2]
  by_cases h : j.val < 1
  · rw [dif_pos h, show j.val = 0 by omega]
    rfl
  · rw [dif_neg h]
    refine (running_apply H G b ⟨j.val - 1, by omega⟩ l).trans ?_
    rw [show j.val - 1 + 1 = j.val by omega]

/-- The stages of the four channel groups, as the generic group. -/
theorem stage0 : val_main_v49 (F := Ideal) H G W = group (val_main_v20 (F := Ideal) H G) (val_main_v45 (F := Ideal) H G) 2#32 (val_main_v48 (F := Ideal) W) := rfl
theorem stage1 : val_main_v79 (F := Ideal) H G W = group (val_main_v50 (F := Ideal) H G) (val_main_v75 (F := Ideal) H G) 4#32 (val_main_v78 (F := Ideal) W) := rfl
theorem stage2 : val_main_v109 (F := Ideal) H G W = group (val_main_v80 (F := Ideal) H G) (val_main_v105 (F := Ideal) H G) 8#32 (val_main_v108 (F := Ideal) W) := rfl
theorem stage3 : val_main_v139 (F := Ideal) H G W = group (val_main_v110 (F := Ideal) H G) (val_main_v135 (F := Ideal) H G) 16#32 (val_main_v138 (F := Ideal) W) := rfl

theorem weights0 (x l : Fin 512) : val_main_v48 (F := Ideal) W (ix2 x l) = W (ix4 0 0 x l) := by
  pointwise [val_main_v48, val_main_v47, val_main_v15, val_main_v14, val_main_v13]
theorem weights1 (x l : Fin 512) : val_main_v78 (F := Ideal) W (ix2 x l) = W (ix4 0 1 x l) := by
  pointwise [val_main_v78, val_main_v77, val_main_v15, val_main_v14, val_main_v13]
theorem weights2 (x l : Fin 512) : val_main_v108 (F := Ideal) W (ix2 x l) = W (ix4 0 2 x l) := by
  pointwise [val_main_v108, val_main_v107, val_main_v15, val_main_v14, val_main_v13]
theorem weights3 (x l : Fin 512) : val_main_v138 (F := Ideal) W (ix2 x l) = W (ix4 0 3 x l) := by
  pointwise [val_main_v138, val_main_v137, val_main_v15, val_main_v14, val_main_v13]

/-- The channels of one group, of the running sums and of the normed rows. -/
theorem cut_sums (b : Fin 4) (j : Fin 4097) (x : Fin 512) :
    val_main_v20 (F := Ideal) H G (ix3 b j x) = val_main_v18 (F := Ideal) H G (ix3 b j (lane 0 (by decide) x))
    ∧ val_main_v50 (F := Ideal) H G (ix3 b j x) = val_main_v18 (F := Ideal) H G (ix3 b j (lane 512 (by decide) x))
    ∧ val_main_v80 (F := Ideal) H G (ix3 b j x) = val_main_v18 (F := Ideal) H G (ix3 b j (lane 1024 (by decide) x))
    ∧ val_main_v110 (F := Ideal) H G (ix3 b j x) = val_main_v18 (F := Ideal) H G (ix3 b j (lane 1536 (by decide) x)) := by
  have h (v : FVec Ideal S4x4097x2048 .f32) {i : S4x4097x2048.Idx} {l : Fin 2048} (h0 : (i 0).val = 0 + b.val) (h1 : (i 1).val = 0 + j.val)
      (h2 : (i 2).val = l.val) : v i = v (ix3 b j l) := congrArg v (Ix.three (h0.trans (Nat.zero_add _)) (h1.trans (Nat.zero_add _)) h2)
  exact ⟨h _ rfl rfl rfl, h _ rfl rfl rfl, h _ rfl rfl rfl, h _ rfl rfl rfl⟩

theorem cut_rows (b : Fin 4) (t : Fin 4096) (x : Fin 512) :
    val_main_v45 (F := Ideal) H G (ix3 b t x) = val_main_v12 (F := Ideal) H G (ix3 b t (lane 0 (by decide) x))
    ∧ val_main_v75 (F := Ideal) H G (ix3 b t x) = val_main_v12 (F := Ideal) H G (ix3 b t (lane 512 (by decide) x))
    ∧ val_main_v105 (F := Ideal) H G (ix3 b t x) = val_main_v12 (F := Ideal) H G (ix3 b t (lane 1024 (by decide) x))
    ∧ val_main_v135 (F := Ideal) H G (ix3 b t x) = val_main_v12 (F := Ideal) H G (ix3 b t (lane 1536 (by decide) x)) := by
  have h (v : FVec Ideal S4x4096x2048 .f32) {i : S4x4096x2048.Idx} {l : Fin 2048} (h0 : (i 0).val = 0 + b.val) (h1 : (i 1).val = 0 + t.val)
      (h2 : (i 2).val = l.val) : v i = v (ix3 b t l) := congrArg v (Ix.three (h0.trans (Nat.zero_add _)) (h1.trans (Nat.zero_add _)) h2)
  exact ⟨h _ rfl rfl rfl, h _ rfl rfl rfl, h _ rfl rfl rfl, h _ rfl rfl rfl⟩

/-- The stream, the joined groups and the scale, at an index. -/
theorem sum_apply (b : Fin 4) (t : Fin 4096) (l : Fin 2048) :
    val_main_v144 (F := Ideal) H G W S (ix3 b t l)
      = H (ix3 b t l) + joinGroups (fun x => val_main_v49 (F := Ideal) H G W (ix3 b t x)) (fun x => val_main_v79 (F := Ideal) H G W (ix3 b t x))
          (fun x => val_main_v109 (F := Ideal) H G W (ix3 b t x)) (fun x => val_main_v139 (F := Ideal) H G W (ix3 b t x)) l * S (ix2 0 l) := by
  pointwise [val_main_v144, val_main_v143, val_main_v142, val_main_v141, val_main_v140, joinGroups]

/-- THE REFERENCE'S RESULT at an index, with a gain of numbers. -/
theorem result_apply (hG : ∀ k, Num (G (ix2 0 k))) (b : Fin 4) (t : Fin 4096) (l : Fin 2048) :
    val_main_v144 (F := Ideal) H G W S (ix3 b t l) = pooled H G W S b t l := by
  have hX (o : ℕ) (ho : o ≤ 1536) (x : Fin 512) (s : ℕ) : Num (normed H G b (lane o ho x) s) := num_normed H G hG b _ s
  rw [sum_apply]
  refine congrArg₂ (· + ·) rfl (congrArg₂ (· * ·) ?_ rfl)
  refine congr (congr (congr (congr (congrArg joinGroups (funext fun x => ?_)) (funext fun x => ?_)) (funext fun x => ?_)) (funext fun x => ?_)) rfl
  · rw [stage0]
    refine (group_mixed _ (hX 0 (by decide)) b _ _ 2 2#32 _ (fun j x => (cut_sums H G b j x).1.trans (sums_apply H G b j _))
      (fun t x => (cut_rows H G b t x).1.trans (normed_apply H G b t _)) start2 t x).trans ?_
    simp only [weights0]
  · rw [stage1]
    refine (group_mixed _ (hX 512 (by decide)) b _ _ 4 4#32 _ (fun j x => (cut_sums H G b j x).2.1.trans (sums_apply H G b j _))
      (fun t x => (cut_rows H G b t x).2.1.trans (normed_apply H G b t _)) start4 t x).trans ?_
    simp only [weights1]
  · rw [stage2]
    refine (group_mixed _ (hX 1024 (by decide)) b _ _ 8 8#32 _ (fun j x => (cut_sums H G b j x).2.2.1.trans (sums_apply H G b j _))
      (fun t x => (cut_rows H G b t x).2.2.1.trans (normed_apply H G b t _)) start8 t x).trans ?_
    simp only [weights2]
  · rw [stage3]
    refine (group_mixed _ (hX 1536 (by decide)) b _ _ 16 16#32 _ (fun j x => (cut_sums H G b j x).2.2.2.trans (sums_apply H G b j _))
      (fun t x => (cut_rows H G b t x).2.2.2.trans (normed_apply H G b t _)) start16 t x).trans ?_
    simp only [weights3]

end Cert.Pool.Ref

end
-- ==== Proof.PoolValue.lean ====
/-
  The pooling mixer's value: what the precondition says of the gain, and the kernel's result and the reference's as one function.
-/
module

public import proofs.«01_k».proof.Proof.Gen.Pre_finite_gain
public import proofs.«01_k».proof.Proof.PoolBlocks
public import proofs.«01_k».proof.Proof.PoolRef
public import Idealize.ShloMosaic.Lib.KernelVsHost

@[expose] public section

noncomputable section

namespace Cert.Pool

open Idealize.ShloMosaic Idealize.ShloMosaic.TcCoe Idealize.SL.Sem
open Cert.Kernel5Ideal Cert.Kernel5Ideal.Gen

/-- A value whose absolute value the host finds below infinity is a number. -/
theorem num_of_finite (x : Ideal .f32)
    (h : FloatOps.cmpf .olt (FloatOps.hostAbsf x) (FloatOps.ofBits (F := Ideal) .f32 0x7F800000#32) = 1#1) : Num x := by
  rw [← Ideal.xori_weird_eq_hostAbsf_olt_inf] at h
  change IntOp.xori (BitVec.ofBool (decide ((x : EReal) = ⊤ ∨ (x : EReal) = ⊥))) 1#1 = 1#1 at h
  by_contra hx
  have hw : (x : EReal) = ⊤ ∨ (x : EReal) = ⊥ := by
    revert hx
    refine EReal.rec (motive := fun y : EReal => ¬Num y → y = ⊤ ∨ y = ⊥) ?_ ?_ ?_ x
    · exact fun _ => Or.inr rfl
    · exact fun r hr => absurd ⟨r, rfl⟩ hr
    · exact fun _ => Or.inl rfl
  rw [decide_eq_true hw] at h
  exact absurd h (by decide)

/-- The precondition makes every lane of the gain a number. -/
theorem gain_num (H : FVec Ideal S4x4096x2048 .f32) (G : FVec Ideal S1x2048 .f32) (W : FVec Ideal S2x4x512x512 .bf16)
    (S : FVec Ideal S1x2048 .f32) (h : Cert.Pre_finite_gain.fn (F := Ideal) H G W S = fun _ => 1#1) (k : Fin 2048) : Num (G (ix2 0 k)) :=
  num_of_finite _ (congrFun h (ix2 0 k))

/-- The reference's result is the kernel's, element by element, where the gain is one of numbers. -/
theorem value_eq (m : (ℓ : Loc nD τ sig) → Buf (Elt Ideal) ℓ) (c : Dev nD)
    (h : Cert.Pre_finite_gain.fn (F := Ideal) (argH m c) (argG m c) (argW m c) (argS m c) = fun _ => 1#1) :
    Cert.Reference5Ideal.Read.val_main_v144 (F := Ideal) (argH m c) (argG m c) (argW m c) (argS m c) = (dats m 0 c).arrAt 5 cfg0.N := by
  funext i
  obtain ⟨b, s, l, rfl⟩ : ∃ (b : Fin 4) (s : Fin 4096) (l : Fin 2048), i = ix3 b s l := ⟨i 0, i 1, i 2, Ix.eq_three i⟩
  exact (Ref.result_apply _ _ _ _ (gain_num _ _ _ _ h) b s l).trans (result_apply m c b s l).symm

end Cert.Pool

end
-- ==== Proof.CastUp.lean ====
/-
  The weight cast of the gate and up matrices, element by element: each point writes its 256 rows of the layer's matrix as they are (over
  the reals the cast is the identity), and the reference takes the same layer.
-/
module

public import proofs.«01_k».proof.Proof.Gen.Kernel9Ideal.Value
public import proofs.«01_k».proof.Proof.Gen.Reference9Ideal.Read
public import proofs.«01_k».proof.Proof.Ix
public import Idealize.ShloMosaic.Lib.Pipeline.Value

@[expose] public section

set_option maxRecDepth 16384

noncomputable section

namespace Cert.CastUp

open Idealize.ShloMosaic Idealize.ShloMosaic.TcCoe Idealize.SL.Sem
open Cert.Kernel9Ideal Cert.Kernel9Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The output block of a point, from its input block. -/
theorem out_apply (x : Vec Ideal S1x256x5632 .f32) (r : Fin 256) (l : Fin 5632) : out0_1 x (ix2 r l) = x (ix3 0 r l) := by
  unfold out0_1
  rw [View.canon_unit_zero hz2]
  simp only [View.ld_unit_zero (S := S1x256x5632) hz3]
  pointwise [k0_pay1]

variable (m : (ℓ : Loc nD τ sig) → Buf (Elt Ideal) ℓ) (c : Dev nD)

/-- The launch's argument, the stacked weights. -/
abbrev argW : (⟨3, ![4, 2048, 5632]⟩ : Shape).Idx → EReal := m ((c : Thread nD τ).loc main_arg0)

/-- The printed index maps: the first layer's row block is the point. -/
theorem index_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

/-- The row of the matrix that is row `r` of the point's block. -/
abbrev rowAt (t : Fin cfg0.N) (r : Fin 256) : Fin 2048 :=
  ⟨256 * t.val + r.val, by have : t.val < 8 := lt_of_lt_of_eq t.isLt N_0; omega⟩

theorem iblk_w (t : Fin cfg0.N) (r : Fin 256) (l : Fin 5632) :
    (iblk m c 0 t : Vec Ideal S1x256x5632 .f32) (ix3 0 r l) = argW m c (ix3 0 (rowAt t r) l) := by
  have hi := (index_facts t).1
  unfold iblk
  rw [View.read_apply]
  show V m c main_arg0 _ = _
  rw [V_main_arg0]
  exact congrArg _ (Ix.three (by show win0_0.index t (0 : Fin 3) * 1 + 1 * 0 = 0; rw [hi.1])
    (by show win0_0.index t (1 : Fin 3) * 256 + 1 * r.val = 256 * t.val + r.val; rw [hi.2.1]; omega)
    (by show win0_0.index t (2 : Fin 3) * 5632 + 1 * l.val = l.val; rw [hi.2.2]; omega))

/-- THE RESULT at an index: the first layer's element. -/
theorem result_apply (R : Fin 2048) (l : Fin 5632) : (dats m 0 c).arrAt 1 cfg0.N (ix2 R l) = argW m c (ix3 0 R l) := by
  have hN : cfg0.N = 8 := N_0
  let t : Fin cfg0.N := ⟨R.val / 256, by omega⟩
  let r : Fin 256 := ⟨R.val % 256, Nat.mod_lt _ (by decide)⟩
  have hR : rowAt t r = R := Fin.ext (by show 256 * (R.val / 256) + R.val % 256 = R.val; omega)
  have h := congrFun (Value.blocks1 m c t (flush0_1 t)) (ix2 r l)
  rw [View.read_apply, Value.flushed1] at h
  have hi := (index_facts t).2
  have he : ∀ j : (⟨2, ![2048, 5632]⟩ : Shape).Idx, (j 0).val = win0_1.index t (0 : Fin 2) * 256 + 1 * r.val →
      (j 1).val = win0_1.index t (1 : Fin 2) * 5632 + 1 * l.val → j = ix2 R l := fun j h0 h1 => Ix.two
    (by rw [h0, hi.1]; show R.val / 256 * 256 + 1 * (R.val % 256) = R.val; omega)
    (by rw [h1, hi.2]; omega)
  have hL : (dats m 0 c).arrAt 1 cfg0.N (ix2 R l) = out0_1 (F := Ideal) (iblk m c 0 t) (ix2 r l) := by
    refine Eq.trans ?_ h
    exact congrArg _ (he _ rfl rfl).symm
  rw [hL]
  refine (out_apply _ r l).trans ?_
  rw [iblk_w, hR]

/-- The two programs' results agree. -/
theorem value_eq : Cert.Reference9Ideal.Read.val_main_v2 (F := Ideal) (argW m c) = (dats m 0 c).arrAt 1 cfg0.N := by
  funext i
  obtain ⟨R, l, rfl⟩ : ∃ (R : Fin 2048) (l : Fin 5632), i = ix2 R l := ⟨i 0, i 1, Ix.eq_two i⟩
  refine Eq.trans ?_ (result_apply m c R l).symm
  pointwise [Cert.Reference9Ideal.Read.val_main_v2, Cert.Reference9Ideal.Read.val_main_v1, Cert.Reference9Ideal.Read.val_main_v0]

end Cert.CastUp

end
-- ==== Proof.CastDown.lean ====
/-
  The weight cast of the down matrices, element by element: each point writes its 704 rows of the layer's matrix as they are (over
  the reals the cast is the identity), and the reference takes the same layer.
-/
module

public import proofs.«01_k».proof.Proof.Gen.Kernel10Ideal.Value
public import proofs.«01_k».proof.Proof.Gen.Reference10Ideal.Read
public import proofs.«01_k».proof.Proof.Ix
public import Idealize.ShloMosaic.Lib.Pipeline.Value

@[expose] public section

set_option maxRecDepth 16384

noncomputable section

namespace Cert.CastDown

open Idealize.ShloMosaic Idealize.ShloMosaic.TcCoe Idealize.SL.Sem
open Cert.Kernel10Ideal Cert.Kernel10Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The output block of a point, from its input block. -/
theorem out_apply (x : Vec Ideal S1x704x2048 .f32) (r : Fin 704) (l : Fin 2048) : out0_1 x (ix2 r l) = x (ix3 0 r l) := by
  unfold out0_1
  rw [View.canon_unit_zero hz2]
  simp only [View.ld_unit_zero (S := S1x704x2048) hz3]
  pointwise [k0_pay1]

variable (m : (ℓ : Loc nD τ sig) → Buf (Elt Ideal) ℓ) (c : Dev nD)

/-- The launch's argument, the stacked weights. -/
abbrev argW : (⟨3, ![4, 5632, 2048]⟩ : Shape).Idx → EReal := m ((c : Thread nD τ).loc main_arg0)

/-- The printed index maps: the first layer's row block is the point. -/
theorem index_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

/-- The row of the matrix that is row `r` of the point's block. -/
abbrev rowAt (t : Fin cfg0.N) (r : Fin 704) : Fin 5632 :=
  ⟨704 * t.val + r.val, by have : t.val < 8 := lt_of_lt_of_eq t.isLt N_0; omega⟩

theorem iblk_w (t : Fin cfg0.N) (r : Fin 704) (l : Fin 2048) :
    (iblk m c 0 t : Vec Ideal S1x704x2048 .f32) (ix3 0 r l) = argW m c (ix3 0 (rowAt t r) l) := by
  have hi := (index_facts t).1
  unfold iblk
  rw [View.read_apply]
  show V m c main_arg0 _ = _
  rw [V_main_arg0]
  exact congrArg _ (Ix.three (by show win0_0.index t (0 : Fin 3) * 1 + 1 * 0 = 0; rw [hi.1])
    (by show win0_0.index t (1 : Fin 3) * 704 + 1 * r.val = 704 * t.val + r.val; rw [hi.2.1]; omega)
    (by show win0_0.index t (2 : Fin 3) * 2048 + 1 * l.val = l.val; rw [hi.2.2]; omega))

/-- THE RESULT at an index: the first layer's element. -/
theorem result_apply (R : Fin 5632) (l : Fin 2048) : (dats m 0 c).arrAt 1 cfg0.N (ix2 R l) = argW m c (ix3 0 R l) := by
  have hN : cfg0.N = 8 := N_0
  let t : Fin cfg0.N := ⟨R.val / 704, by omega⟩
  let r : Fin 704 := ⟨R.val % 704, Nat.mod_lt _ (by decide)⟩
  have hR : rowAt t r = R := Fin.ext (by show 704 * (R.val / 704) + R.val % 704 = R.val; omega)
  have h := congrFun (Value.blocks1 m c t (flush0_1 t)) (ix2 r l)
  rw [View.read_apply, Value.flushed1] at h
  have hi := (index_facts t).2
  have he : ∀ j : (⟨2, ![5632, 2048]⟩ : Shape).Idx, (j 0).val = win0_1.index t (0 : Fin 2) * 704 + 1 * r.val →
      (j 1).val = win0_1.index t (1 : Fin 2) * 2048 + 1 * l.val → j = ix2 R l := fun j h0 h1 => Ix.two
    (by rw [h0, hi.1]; show R.val / 704 * 704 + 1 * (R.val % 704) = R.val; omega)
    (by rw [h1, hi.2]; omega)
  have hL : (dats m 0 c).arrAt 1 cfg0.N (ix2 R l) = out0_1 (F := Ideal) (iblk m c 0 t) (ix2 r l) := by
    refine Eq.trans ?_ h
    exact congrArg _ (he _ rfl rfl).symm
  rw [hL]
  refine (out_apply _ r l).trans ?_
  rw [iblk_w, hR]

/-- The two programs' results agree. -/
theorem value_eq : Cert.Reference10Ideal.Read.val_main_v2 (F := Ideal) (argW m c) = (dats m 0 c).arrAt 1 cfg0.N := by
  funext i
  obtain ⟨R, l, rfl⟩ : ∃ (R : Fin 5632) (l : Fin 2048), i = ix2 R l := ⟨i 0, i 1, Ix.eq_two i⟩
  refine Eq.trans ?_ (result_apply m c R l).symm
  pointwise [Cert.Reference10Ideal.Read.val_main_v2, Cert.Reference10Ideal.Read.val_main_v1, Cert.Reference10Ideal.Read.val_main_v0]

end Cert.CastDown

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite_gain
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.PrepFrame
public import proofs.«01_k».proof.Proof.PrepIdealFrame
public import proofs.«01_k».proof.Proof.ScanFrame
public import proofs.«01_k».proof.Proof.ScanIdealFrame
public import proofs.«01_k».proof.Proof.MobaFrame
public import proofs.«01_k».proof.Proof.MobaIdealFrame
public import proofs.«01_k».proof.Proof.FfnFold
public import proofs.«01_k».proof.Proof.FfnRef
public import proofs.«01_k».proof.Proof.MidFold
public import proofs.«01_k».proof.Proof.InProj
public import proofs.«01_k».proof.Proof.OutProj
public import proofs.«01_k».proof.Proof.PoolValue
public import proofs.«01_k».proof.Proof.CastUp
public import proofs.«01_k».proof.Proof.CastDown
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, the reference's result is the kernel's, element by element: both are the final norm of
    the row plus half of its feed-forward. -/
theorem ffn_eq (m : (ℓ : Loc Cert.KernelIdeal.nD Cert.KernelIdeal.τ Cert.KernelIdeal.sig) → Buf (Elt Ideal) ℓ)
    (c : Dev Cert.KernelIdeal.nD) :
    Cert.ReferenceIdeal.Read.val_main_v34 (F := Ideal) (Cert.Ffn.argH m c) (Cert.Ffn.argG m c) (Cert.Ffn.argA m c)
        (Cert.Ffn.argB m c) (Cert.Ffn.argD m c) (Cert.Ffn.argF m c)
      = Cert.KernelIdeal.Value.G6 m c := by
  funext i
  obtain ⟨R, l, rfl⟩ : ∃ (R : Fin 16384) (l : Fin 2048), i = ix2 R l := ⟨i 0, i 1, by funext a; match a with | ⟨0, _⟩ => rfl | ⟨1, _⟩ => rfl⟩
  exact (Cert.Ffn.Ref.result_apply _ _ _ _ _ _ R l).trans (Cert.Ffn.result_apply m c R l).symm

/-- THE VALUE CLAIM: started on memories that agree on the arguments, the kernel and the reference leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5⟩ := hagree c
  rw [(h c).1, Cert.ReferenceIdeal.Read.val_main_v34_eq, e0, e1, e2, e3, e4, e5]
  exact ffn_eq m c

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same claim for the feed-forward call that isn't the last. -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨e0, e1, e2, e3, e4, -⟩ := hagree c
  rw [(h c).1, Cert.Reference2Ideal.Read.val_main_v22_eq, e0, e1, e2, e3, e4]
  exact Cert.Mid.value_eq m c

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The same claim for the mixer's input projection. -/
theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  obtain ⟨e0, e1, e2⟩ := hagree c
  rw [(h c).1, Cert.Reference3Ideal.Read.val_main_v15_eq, e0, e1, e2]
  exact Cert.InProj.value_eq m c

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The same claim for the mixer's output projection. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨e0, e1, e2, e3⟩ := hagree c
  rw [(h c).1, Cert.Reference4Ideal.Read.val_main_v7_eq, e0, e1, e2, e3]
  exact Cert.OutProj.value_eq m c

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same claim for the pooling mixer, where the norm's gain is finite. -/
theorem algebraic_Kernel5Ideal_Reference5Ideal : algebraic_Kernel5Ideal_Reference5Ideal_pre_finite_gain := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨e0, e1, e2, e3⟩ := hagree c
  rw [(h c).1, Cert.Reference5Ideal.Read.val_main_v144_eq, e0, e1, e2, e3]
  exact Cert.Pool.value_eq m c (hpre c)

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The same claim for the weight cast of the gate and up matrices. -/
theorem algebraic_Kernel9Ideal_Reference9Ideal : algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  rw [(h c).1, Cert.Reference9Ideal.Read.val_main_v2_eq, hagree c]
  exact Cert.CastUp.value_eq m c

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The same claim for the weight cast of the down matrices. -/
theorem algebraic_Kernel10Ideal_Reference10Ideal : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1, Cert.Reference10Ideal.Read.val_main_v2_eq, hagree c]
  exact Cert.CastDown.value_eq m c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Kernel7.Gen.facts, Cert.Kernel7Ideal.Gen.facts,
    Cert.Kernel8.Gen.facts, Cert.Kernel8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_gain.Gen.facts,
    fun m ρ _ => Cert.Kernel.Gen.frame m ρ, fun m ρ _ => Cert.KernelIdeal.Gen.frame m ρ, quiescent_ReferenceIdeal,
    fun m ρ _ => Cert.Kernel2.Gen.frame m ρ, fun m ρ _ => Cert.Kernel2Ideal.Gen.frame m ρ, quiescent_Reference2Ideal,
    fun m ρ _ => Cert.Kernel3.Gen.frame m ρ, fun m ρ _ => Cert.Kernel3Ideal.Gen.frame m ρ, quiescent_Reference3Ideal,
    fun m ρ _ => Cert.Kernel4.Gen.frame m ρ, fun m ρ _ => Cert.Kernel4Ideal.Gen.frame m ρ, quiescent_Reference4Ideal,
    fun m ρ _ => Cert.Kernel5.Gen.frame m ρ, fun m ρ _ => Cert.Kernel5Ideal.Gen.frame m ρ,
    fun m ρ _ => Cert.Kernel5Ideal.Gen.frame m ρ, quiescent_Reference5Ideal, fun m ρ _ => quiescent_Reference5Ideal m ρ trivial,
    fun m ρ _ => Cert.Kernel6.Moba.frame m ρ, fun m ρ _ => Cert.Kernel6Ideal.Moba.frame m ρ,
    fun m ρ _ => Cert.Kernel7.Prep.frame m ρ, fun m ρ _ => Cert.Kernel7Ideal.Prep.frame m ρ,
    fun m ρ _ => Cert.Kernel8.Scan.frame m ρ, fun m ρ _ => Cert.Kernel8Ideal.Scan.frame m ρ,
    fun m ρ _ => Cert.Kernel9.Gen.frame m ρ, fun m ρ _ => Cert.Kernel9Ideal.Gen.frame m ρ, quiescent_Reference9Ideal,
    fun m ρ _ => Cert.Kernel10.Gen.frame m ρ, fun m ρ _ => Cert.Kernel10Ideal.Gen.frame m ρ, quiescent_Reference10Ideal,
    (trivial : preserves_Kernel_KernelIdeal), algebraic_KernelIdeal_ReferenceIdeal,
    (trivial : preserves_Kernel2_Kernel2Ideal), algebraic_Kernel2Ideal_Reference2Ideal,
    (trivial : preserves_Kernel3_Kernel3Ideal), algebraic_Kernel3Ideal_Reference3Ideal,
    (trivial : preserves_Kernel4_Kernel4Ideal), algebraic_Kernel4Ideal_Reference4Ideal,
    (trivial : preserves_Kernel5_Kernel5Ideal), algebraic_Kernel5Ideal_Reference5Ideal,
    (trivial : preserves_Kernel6_Kernel6Ideal), (trivial : preserves_Kernel7_Kernel7Ideal), (trivial : preserves_Kernel8_Kernel8Ideal),
    (trivial : preserves_Kernel9_Kernel9Ideal), algebraic_Kernel9Ideal_Reference9Ideal,
    (trivial : preserves_Kernel10_Kernel10Ideal), algebraic_Kernel10Ideal_Reference10Ideal⟩

end Cert.Proof

end
